-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_nonempty [hPre_finite_and_nonempty : Cert.Pre_finite_and_nonempty.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_and_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_and_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_and_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_and_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_and_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_and_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite_and_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite_and_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite_and_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonempty [hPre_finite_and_nonempty : Cert.Pre_finite_and_nonempty.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_and_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_and_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_and_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_and_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_and_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_and_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite_and_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite_and_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite_and_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_and_nonempty [hKernelIdeal : Cert.KernelIdeal.Facts] [hPre_finite_and_nonempty : Cert.Pre_finite_and_nonempty.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_nonempty m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_and_nonempty [hReferenceIdeal : Cert.ReferenceIdeal.Facts] [hPre_finite_and_nonempty : Cert.Pre_finite_and_nonempty.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonempty m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_sqrt_hd" .f32 0x3E3504F3#32 (((Real.sqrt 32)⁻¹ : ℝ) : EReal)
  ∧ IdealRules.named_const.Statement Cert.KernelIdeal.κ "masked" .f32 0xC9742400#32 ⊥
  ∧ IdealRules.named_const.Statement Cert.KernelIdeal.κ "removed" .f32 0xFF61B1E6#32 ⊥

def algebraic_KernelIdeal_ReferenceIdeal_pre_finite_and_nonempty [hKernelIdeal : Cert.KernelIdeal.Facts] [hReferenceIdeal : Cert.ReferenceIdeal.Facts] [hPre_finite_and_nonempty : Cert.Pre_finite_and_nonempty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_nonempty m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_and_nonempty : Cert.Pre_finite_and_nonempty.Facts),
    quiescent_Kernel (hKernel := hKernel)
    ∧ quiescent_KernelIdeal (hKernelIdeal := hKernelIdeal)
    ∧ quiescent_KernelIdeal_pre_finite_and_nonempty (hKernelIdeal := hKernelIdeal) (hPre_finite_and_nonempty := hPre_finite_and_nonempty)
    ∧ quiescent_ReferenceIdeal (hReferenceIdeal := hReferenceIdeal)
    ∧ quiescent_ReferenceIdeal_pre_finite_and_nonempty (hReferenceIdeal := hReferenceIdeal) (hPre_finite_and_nonempty := hPre_finite_and_nonempty)
    ∧ preserves_Kernel_KernelIdeal
    ∧ algebraic_KernelIdeal_ReferenceIdeal_pre_finite_and_nonempty (hKernelIdeal := hKernelIdeal) (hReferenceIdeal := hReferenceIdeal) (hPre_finite_and_nonempty := hPre_finite_and_nonempty)
-- ==== Pre_finite_and_nonempty.lean ====
abbrev S8x16x256 : Shape := ⟨3, ![8, 16, 256]⟩
abbrev S8x128x256 : Shape := ⟨3, ![8, 128, 256]⟩
abbrev S1024x64x256 : Shape := ⟨3, ![1024, 64, 256]⟩
abbrev S8 : Shape := ⟨1, ![8]⟩
abbrev S256x256 : Shape := ⟨2, ![256, 256]⟩
abbrev S1024x16x256 : Shape := ⟨3, ![1024, 16, 256]⟩
abbrev S_ : Shape := ⟨0, ![]⟩

class Facts : Prop where
  slices_S1024x64x256_S1024x16x256_0_48_0 : S1024x64x256.Slices ![0, 48, 0] S1024x16x256
  bcast_S_S8x16x256 : S_.BroadcastsInDim S8x16x256 (![] : Fin 0 → Fin S8x16x256.rank)
  bcast_S_S8x128x256 : S_.BroadcastsInDim S8x128x256 (![] : Fin 0 → Fin S8x128x256.rank)
  bcast_S_S1024x16x256 : S_.BroadcastsInDim S1024x16x256 (![] : Fin 0 → Fin S1024x16x256.rank)
  bcast_S_S256x256 : S_.BroadcastsInDim S256x256 (![] : Fin 0 → Fin S256x256.rank)
  bcast_S_S8 : S_.BroadcastsInDim S8 (![] : Fin 0 → Fin S8.rank)

variable [Facts]

def fn_part1 {F : FTy → Type} [FloatOps F] (main_arg4 : IVec S8 32) (main_arg7 : FVec F S256x256 .f32) (main_arg8 : FVec F S256x256 .f32) (main_arg9 : FVec F S256x256 .f32) (main_v4 : IVec S8x16x256 1) (main_v7 : IVec S8x128x256 1) (main_v10 : IVec S1024x16x256 1) (main_v13 : IVec S1024x16x256 1) (main_v16 : IVec S256x256 1) (main_v17 : FVec F S256x256 .f32) (main_cst_4 : FVec F S_ .f32) : IVec S8x16x256 1 × IVec S8x128x256 1 × IVec S1024x16x256 1 × IVec S1024x16x256 1 × IVec S256x256 1 × IVec S256x256 1 × IVec S256x256 1 × IVec S256x256 1 × IVec S256x256 1 × IVec S8 1 :=
  let main_v18 : FVec F S256x256 .f32 := broadcastInDim S256x256 ![] bcast_S_S256x256 main_cst_4
  let main_v19 : IVec S256x256 1 := cmpf .olt main_v17 main_v18
  let main_v20 : FVec F S256x256 .f32 := Host.absf main_arg7
  let main_cst_5 : FVec F S_ .f32 := constant S_ .f32 0x7F800000#32
  let main_v21 : FVec F S256x256 .f32 := broadcastInDim S256x256 ![] bcast_S_S256x256 main_cst_5
  let main_v22 : IVec S256x256 1 := cmpf .olt main_v20 main_v21
  let main_v23 : FVec F S256x256 .f32 := Host.absf main_arg8
  let main_cst_6 : FVec F S_ .f32 := constant S_ .f32 0x7F800000#32
  let main_v24 : FVec F S256x256 .f32 := broadcastInDim S256x256 ![] bcast_S_S256x256 main_cst_6
  let main_v25 : IVec S256x256 1 := cmpf .olt main_v23 main_v24
  let main_v26 : FVec F S256x256 .f32 := Host.absf main_arg9
  let main_cst_7 : FVec F S_ .f32 := constant S_ .f32 0x7F800000#32
  let main_v27 : FVec F S256x256 .f32 := broadcastInDim S256x256 ![] bcast_S_S256x256 main_cst_7
  let main_v28 : IVec S256x256 1 := cmpf .olt main_v26 main_v27
  let main_c : IVec S_ 32 := constantI S_ 32 1#32
  let main_v29 : IVec S8 32 := broadcastInDim S8 ![] bcast_S_S8 main_c
  let main_v30 : IVec S8 1 := cmpi .sge main_arg4 main_v29
  (main_v4, main_v7, main_v10, main_v13, main_v16, main_v19, main_v22, main_v25, main_v28, main_v30)

def fn {F : FTy → Type} [FloatOps F] (main_arg0 : FVec F S8x16x256 .f32) (main_arg1 : FVec F S8x128x256 .f32) (main_arg2 : FVec F S1024x64x256 .f32) (main_arg3 : FVec F S1024x64x256 .f32) (main_arg4 : IVec S8 32) (main_arg5 : FVec F S256x256 .f32) (main_arg6 : FVec F S256x256 .f32) (main_arg7 : FVec F S256x256 .f32) (main_arg8 : FVec F S256x256 .f32) (main_arg9 : FVec F S256x256 .f32) (main_arg10 : FVec F S256x256 .f32) : IVec S8x16x256 1 × IVec S8x128x256 1 × IVec S1024x16x256 1 × IVec S1024x16x256 1 × IVec S256x256 1 × IVec S256x256 1 × IVec S256x256 1 × IVec S256x256 1 × IVec S256x256 1 × IVec S8 1 :=
  let main_v0 : FVec F S1024x16x256 .f32 := (extractStridedSlice S1024x16x256 ![0, 48, 0] · slices_S1024x64x256_S1024x16x256_0_48_0) main_arg2
  let main_v1 : FVec F S1024x16x256 .f32 := (extractStridedSlice S1024x16x256 ![0, 48, 0] · slices_S1024x64x256_S1024x16x256_0_48_0) main_arg3
  let main_v2 : FVec F S8x16x256 .f32 := Host.absf main_arg0
  let main_cst : FVec F S_ .f32 := constant S_ .f32 0x7F800000#32
  let main_v3 : FVec F S8x16x256 .f32 := broadcastInDim S8x16x256 ![] bcast_S_S8x16x256 main_cst
  let main_v4 : IVec S8x16x256 1 := cmpf .olt main_v2 main_v3
  let main_v5 : FVec F S8x128x256 .f32 := Host.absf main_arg1
  let main_cst_0 : FVec F S_ .f32 := constant S_ .f32 0x7F800000#32
  let main_v6 : FVec F S8x128x256 .f32 := broadcastInDim S8x128x256 ![] bcast_S_S8x128x256 main_cst_0
  let main_v7 : IVec S8x128x256 1 := cmpf .olt main_v5 main_v6
  let main_v8 : FVec F S1024x16x256 .f32 := Host.absf main_v0
  let main_cst_1 : FVec F S_ .f32 := constant S_ .f32 0x7F800000#32
  let main_v9 : FVec F S1024x16x256 .f32 := broadcastInDim S1024x16x256 ![] bcast_S_S1024x16x256 main_cst_1
  let main_v10 : IVec S1024x16x256 1 := cmpf .olt main_v8 main_v9
  let main_v11 : FVec F S1024x16x256 .f32 := Host.absf main_v1
  let main_cst_2 : FVec F S_ .f32 := constant S_ .f32 0x7F800000#32
  let main_v12 : FVec F S1024x16x256 .f32 := broadcastInDim S1024x16x256 ![] bcast_S_S1024x16x256 main_cst_2
  let main_v13 : IVec S1024x16x256 1 := cmpf .olt main_v11 main_v12
  let main_v14 : FVec F S256x256 .f32 := Host.absf main_arg5
  let main_cst_3 : FVec F S_ .f32 := constant S_ .f32 0x7F800000#32
  let main_v15 : FVec F S256x256 .f32 := broadcastInDim S256x256 ![] bcast_S_S256x256 main_cst_3
  let main_v16 : IVec S256x256 1 := cmpf .olt main_v14 main_v15
  let main_v17 : FVec F S256x256 .f32 := Host.absf main_arg6
  let main_cst_4 : FVec F S_ .f32 := constant S_ .f32 0x7F800000#32
  fn_part1 (F := F) main_arg4 main_arg7 main_arg8 main_arg9 main_v4 main_v7 main_v10 main_v13 main_v16 main_v17 main_cst_4
-- ==== Kernel.lean ====
abbrev S8x16x256 : Shape := ⟨3, ![8, 16, 256]⟩
abbrev S8x128x256 : Shape := ⟨3, ![8, 128, 256]⟩
abbrev S1024x64x256 : Shape := ⟨3, ![1024, 64, 256]⟩
abbrev S8 : Shape := ⟨1, ![8]⟩
abbrev S256x256 : Shape := ⟨2, ![256, 256]⟩
abbrev S128x256 : Shape := ⟨2, ![128, 256]⟩
abbrev S1024x256 : Shape := ⟨2, ![1024, 256]⟩
abbrev S1x8 : Shape := ⟨2, ![1, 8]⟩
abbrev S1x16x256 : Shape := ⟨3, ![1, 16, 256]⟩
abbrev S1024x128 : Shape := ⟨2, ![1024, 128]⟩
abbrev S3x128x16x256 : Shape := ⟨4, ![3, 128, 16, 256]⟩
abbrev S2x3 : Shape := ⟨2, ![2, 3]⟩
abbrev S1x1 : Shape := ⟨2, ![1, 1]⟩
abbrev S_ : Shape := ⟨0, ![]⟩
abbrev S1x128x16x256 : Shape := ⟨4, ![1, 128, 16, 256]⟩
abbrev S128x16x256 : Shape := ⟨3, ![128, 16, 256]⟩
abbrev S128x32 : Shape := ⟨2, ![128, 32]⟩
abbrev S256x32 : Shape := ⟨2, ![256, 32]⟩
abbrev S1x128x256 : Shape := ⟨3, ![1, 128, 256]⟩
abbrev S128x128 : Shape := ⟨2, ![128, 128]⟩
abbrev S16x256 : Shape := ⟨2, ![16, 256]⟩
abbrev S16x32 : Shape := ⟨2, ![16, 32]⟩
abbrev S16x128 : Shape := ⟨2, ![16, 128]⟩
abbrev S1024 : Shape := ⟨1, ![1024]⟩
abbrev S1024x1 : Shape := ⟨2, ![1024, 1]⟩
abbrev S2048x256 : Shape := ⟨2, ![2048, 256]⟩
abbrev S2048x128 : Shape := ⟨2, ![2048, 128]⟩
abbrev S128x16x128 : Shape := ⟨3, ![128, 16, 128]⟩
abbrev S128x1x128 : Shape := ⟨3, ![128, 1, 128]⟩

abbrev nBuf : Space → Nat
  | .hbm => 15
  | .vmem => 14
  | .smem => 1
  | _ => 0

abbrev bufTy : (tb : Table) → Fin (tcTables nBuf tb) → BufTy
  | .hbm, ⟨0, _⟩ => ⟨S8x16x256, .f32⟩
  | .hbm, ⟨1, _⟩ => ⟨S8x128x256, .f32⟩
  | .hbm, ⟨2, _⟩ => ⟨S1024x64x256, .f32⟩
  | .hbm, ⟨3, _⟩ => ⟨S1024x64x256, .f32⟩
  | .hbm, ⟨4, _⟩ => ⟨S8, .i32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S128x256, .f32⟩
  | .hbm, ⟨12, _⟩ => ⟨S1024x256, .f32⟩
  | .hbm, ⟨13, _⟩ => ⟨S1x8, .i32⟩
  | .hbm, ⟨14, _⟩ => ⟨S8x16x256, .f32⟩
  | .local _ .vmem, ⟨0, _⟩ => ⟨S128x256, .f32⟩
  | .local _ .vmem, ⟨1, _⟩ => ⟨S1024x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x16x256, .f32⟩
  | .local _ .vmem, ⟨9, _⟩ => ⟨S1x16x256, .f32⟩
  | .local _ .vmem, ⟨10, _⟩ => ⟨S8x128x256, .f32⟩
  | .local _ .vmem, ⟨11, _⟩ => ⟨S1024x128, .f32⟩
  | .local _ .vmem, ⟨12, _⟩ => ⟨S3x128x16x256, .f32⟩
  | .local _ .vmem, ⟨13, _⟩ => ⟨S3x128x16x256, .f32⟩
  | .local _ .smem, ⟨0, _⟩ => ⟨S1x8, .i32⟩
  | _, _ => ⟨S8x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg9_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c1_i32 : BitVec 32 := 1#32
  let v6 : BitVec 32 := Scalar.subi arg0 c1_i32
  let c2_i32 : BitVec 32 := 2#32
  let v8 : BitVec 32 := Scalar.addi v6 c2_i32
  let c8_i32 : BitVec 32 := 8#32
  let v9 : BitVec 1 := Scalar.cmpi .slt v8 c8_i32
  let v10 : BitVec 32 := Scalar.extui v9
  let c0_i32_3 : BitVec 32 := 0#32
  let v11 : BitVec 1 := Scalar.cmpi .ne v10 c0_i32_3
  v11

def k0_off1 (i : grid0.Coords) : Fin 2 → Nat :=
  let c0_i32_50 : BitVec 32 := 0#32
  let arg0 : BitVec 32 := BitVec.ofNat 32 (i 0).val
  let c1_i32 : BitVec 32 := 1#32
  let v6 : BitVec 32 := Scalar.subi arg0 c1_i32
  let c2_i32_46 : BitVec 32 := 2#32
  let v89 : BitVec 32 := Scalar.addi v6 c2_i32_46
  let c3_i32_47 : BitVec 32 := 3#32
  let v90 : BitVec 32 := Scalar.remsi v89 c3_i32_47
  ![0, v90.toNat]
def k0_off2 (i : grid0.Coords) : Fin 4 → Nat :=
  let arg0 : BitVec 32 := BitVec.ofNat 32 (i 0).val
  let c1_i32 : BitVec 32 := 1#32
  let v6 : BitVec 32 := Scalar.subi arg0 c1_i32
  let c2_i32_46 : BitVec 32 := 2#32
  let v89 : BitVec 32 := Scalar.addi v6 c2_i32_46
  let c3_i32_47 : BitVec 32 := 3#32
  let v90 : BitVec 32 := Scalar.remsi v89 c3_i32_47
  let c0_i32_51 : BitVec 32 := 0#32
  let c0_i32_52 : BitVec 32 := 0#32
  let c0_i32_53 : BitVec 32 := 0#32
  ![v90.toNat, 0, 0, 0]
def k0_off3 (i : grid0.Coords) : Fin 3 → Nat :=
  let arg0 : BitVec 32 := BitVec.ofNat 32 (i 0).val
  let c1_i32 : BitVec 32 := 1#32
  let v6 : BitVec 32 := Scalar.subi arg0 c1_i32
  let c2_i32_48 : BitVec 32 := 2#32
  let v91 : BitVec 32 := Scalar.addi v6 c2_i32_48
  let c128_i32_49 : BitVec 32 := 128#32
  let v92 : BitVec 32 := Scalar.muli v91 c128_i32_49
  let c48_i32_54 : BitVec 32 := 48#32
  let c0_i32_55 : BitVec 32 := 0#32
  ![v92.toNat, 48, 0]
def k0_off4 (i : grid0.Coords) : Fin 2 → Nat :=
  let c1_i32_58 : BitVec 32 := 1#32
  let arg0 : BitVec 32 := BitVec.ofNat 32 (i 0).val
  let c1_i32 : BitVec 32 := 1#32
  let v6 : BitVec 32 := Scalar.subi arg0 c1_i32
  let c2_i32_46 : BitVec 32 := 2#32
  let v89 : BitVec 32 := Scalar.addi v6 c2_i32_46
  let c3_i32_47 : BitVec 32 := 3#32
  let v90 : BitVec 32 := Scalar.remsi v89 c3_i32_47
  ![1, v90.toNat]
def k0_off5 (i : grid0.Coords) : Fin 2 → Nat :=
  let c0_i32_4 : BitVec 32 := 0#32
  let arg0 : BitVec 32 := BitVec.ofNat 32 (i 0).val
  let c1_i32 : BitVec 32 := 1#32
  let v6 : BitVec 32 := Scalar.subi arg0 c1_i32
  let c3_i32 : BitVec 32 := 3#32
  let v7 : BitVec 32 := Scalar.remsi v6 c3_i32
  ![0, v7.toNat]
def k0_off6 (i : grid0.Coords) : Fin 4 → Nat :=
  let arg0 : BitVec 32 := BitVec.ofNat 32 (i 0).val
  let c1_i32 : BitVec 32 := 1#32
  let v6 : BitVec 32 := Scalar.subi arg0 c1_i32
  let c3_i32 : BitVec 32 := 3#32
  let v7 : BitVec 32 := Scalar.remsi v6 c3_i32
  let c0_i32_5 : BitVec 32 := 0#32
  let c0_i32_6 : BitVec 32 := 0#32
  let c0_i32_7 : BitVec 32 := 0#32
  ![v7.toNat, 0, 0, 0]
def k0_off7 (i : grid0.Coords) : Fin 3 → Nat :=
  let arg0 : BitVec 32 := BitVec.ofNat 32 (i 0).val
  let c1_i32 : BitVec 32 := 1#32
  let v6 : BitVec 32 := Scalar.subi arg0 c1_i32
  let c128_i32 : BitVec 32 := 128#32
  let v12 : BitVec 32 := Scalar.muli v6 c128_i32
  let c48_i32 : BitVec 32 := 48#32
  let c0_i32_8 : BitVec 32 := 0#32
  ![v12.toNat, 48, 0]
def k0_off8 (i : grid0.Coords) : Fin 2 → Nat :=
  let c1_i32_10 : BitVec 32 := 1#32
  let arg0 : BitVec 32 := BitVec.ofNat 32 (i 0).val
  let c1_i32 : BitVec 32 := 1#32
  let v6 : BitVec 32 := Scalar.subi arg0 c1_i32
  let c3_i32 : BitVec 32 := 3#32
  let v7 : BitVec 32 := Scalar.remsi v6 c3_i32
  ![1, v7.toNat]
def k0_off9 (i : grid0.Coords) : Fin 3 → Nat :=
  let c0 : Index := 0#32
  let arg0 : BitVec 32 := BitVec.ofNat 32 (i 0).val
  let c1_i32 : BitVec 32 := 1#32
  let v6 : BitVec 32 := Scalar.subi arg0 c1_i32
  let c16_i32 : BitVec 32 := 16#32
  let v24 : BitVec 32 := Scalar.muli v6 c16_i32
  let v25 : Index := Scalar.indexCast v24
  let c0_16 : Index := 0#32
  ![0, v25.toNat, 0]
def k0_off10 (i : grid0.Coords) : Fin 2 → Nat :=
  let arg0 : BitVec 32 := BitVec.ofNat 32 (i 0).val
  let c1_i32 : BitVec 32 := 1#32
  let v6 : BitVec 32 := Scalar.subi arg0 c1_i32
  let c8_i32_17 : BitVec 32 := 8#32
  let v28 : BitVec 32 := Scalar.muli v6 c8_i32_17
  let c16_i32_18 : BitVec 32 := 16#32
  let v29 : BitVec 32 := Scalar.muli v28 c16_i32_18
  let v30 : Index := Scalar.indexCast v29
  let c0_19 : Index := 0#32
  ![v30.toNat, 0]
def k0_off11 (i : grid0.Coords) : Fin 4 → Nat :=
  let arg0 : BitVec 32 := BitVec.ofNat 32 (i 0).val
  let c1_i32 : BitVec 32 := 1#32
  let v6 : BitVec 32 := Scalar.subi arg0 c1_i32
  let c3_i32 : BitVec 32 := 3#32
  let v7 : BitVec 32 := Scalar.remsi v6 c3_i32
  let v32 : Index := Scalar.indexCast v7
  let c0_20 : Index := 0#32
  let c0_21 : Index := 0#32
  let c0_22 : Index := 0#32
  ![v32.toNat, 0, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .smem S1x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv_sqrt_hd" => some (((Real.sqrt 32)⁻¹ : ℝ) : EReal)
  | "masked" => some ⊥
  | "removed" => some ⊥
  | _ => none
-- ==== ReferenceIdeal.lean ====
abbrev S8x16x256 : Shape := ⟨3, ![8, 16, 256]⟩
abbrev S8x128x256 : Shape := ⟨3, ![8, 128, 256]⟩
abbrev S1024x64x256 : Shape := ⟨3, ![1024, 64, 256]⟩
abbrev S8 : Shape := ⟨1, ![8]⟩
abbrev S256x256 : Shape := ⟨2, ![256, 256]⟩
abbrev S8x16x8x32 : Shape := ⟨4, ![8, 16, 8, 32]⟩
abbrev S8x8x16x32 : Shape := ⟨4, ![8, 8, 16, 32]⟩
abbrev S64x16x32 : Shape := ⟨3, ![64, 16, 32]⟩
abbrev S8x128x8x32 : Shape := ⟨4, ![8, 128, 8, 32]⟩
abbrev S8x8x128x32 : Shape := ⟨4, ![8, 8, 128, 32]⟩
abbrev S64x128x32 : Shape := ⟨3, ![64, 128, 32]⟩
abbrev S1024x64x8x32 : Shape := ⟨4, ![1024, 64, 8, 32]⟩
abbrev S1024x8x64x32 : Shape := ⟨4, ![1024, 8, 64, 32]⟩
abbrev S8192x64x32 : Shape := ⟨3, ![8192, 64, 32]⟩
abbrev S64x32x128 : Shape := ⟨3, ![64, 32, 128]⟩
abbrev S64x16x128 : Shape := ⟨3, ![64, 16, 128]⟩
abbrev S_ : Shape := ⟨0, ![]⟩
abbrev S8x128 : Shape := ⟨2, ![8, 128]⟩
abbrev S1024 : Shape := ⟨1, ![1024]⟩
abbrev S1024x128 : Shape := ⟨2, ![1024, 128]⟩
abbrev S128 : Shape := ⟨1, ![128]⟩
abbrev S1x128 : Shape := ⟨2, ![1, 128]⟩
abbrev S1024x1 : Shape := ⟨2, ![1024, 1]⟩
abbrev S64x16x8 : Shape := ⟨3, ![64, 16, 8]⟩
abbrev S64 : Shape := ⟨1, ![64]⟩
abbrev S64x1x1 : Shape := ⟨3, ![64, 1, 1]⟩
abbrev S16 : Shape := ⟨1, ![16]⟩
abbrev S1x16x1 : Shape := ⟨3, ![1, 16, 1]⟩
abbrev S64x16x8x1 : Shape := ⟨4, ![64, 16, 8, 1]⟩
abbrev S64x16x8x3 : Shape := ⟨4, ![64, 16, 8, 3]⟩
abbrev S64x16 : Shape := ⟨2, ![64, 16]⟩
abbrev S64x16x1 : Shape := ⟨3, ![64, 16, 1]⟩
abbrev S64x128x16x32 : Shape := ⟨4, ![64, 128, 16, 32]⟩
abbrev S8192x16x32 : Shape := ⟨3, ![8192, 16, 32]⟩
abbrev S8x128x8x64x32 : Shape := ⟨5, ![8, 128, 8, 64, 32]⟩
abbrev S8x8x128x64x32 : Shape := ⟨5, ![8, 8, 128, 64, 32]⟩
abbrev S8192x32x64 : Shape := ⟨3, ![8192, 32, 64]⟩
abbrev S8192x16x64 : Shape := ⟨3, ![8192, 16, 64]⟩
abbrev S8192x16x16 : Shape := ⟨3, ![8192, 16, 16]⟩
abbrev S1 : Shape := ⟨1, ![1]⟩
abbrev S8192x16 : Shape := ⟨2, ![8192, 16]⟩
abbrev S8192x16x1 : Shape := ⟨3, ![8192, 16, 1]⟩
abbrev S64x128x16x64 : Shape := ⟨4, ![64, 128, 16, 64]⟩
abbrev S64x16x128x64 : Shape := ⟨4, ![64, 16, 128, 64]⟩
abbrev S64x16x128x1 : Shape := ⟨4, ![64, 16, 128, 1]⟩
abbrev S64x16x8192 : Shape := ⟨3, ![64, 16, 8192]⟩
abbrev S64x8192x32 : Shape := ⟨3, ![64, 8192, 32]⟩

abbrev nBuf : Space → Nat
  | .hbm => 148
  | .vmem => 0
  | .smem => 0
  | _ => 0

abbrev hbmTy0_0 (i : Nat) : BufTy := match i % 128 with
  | 0 => ⟨S8x16x256, .f32⟩
  | 1 => ⟨S8x128x256, .f32⟩
  | 2 => ⟨S1024x64x256, .f32⟩
  | 3 => ⟨S1024x64x256, .f32⟩
  | 4 => ⟨S8, .i32⟩
  | 5 => ⟨S256x256, .f32⟩
  | 6 => ⟨S256x256, .f32⟩
  | 7 => ⟨S256x256, .f32⟩
  | 8 => ⟨S256x256, .f32⟩
  | 9 => ⟨S256x256, .f32⟩
  | 10 => ⟨S256x256, .f32⟩
  | 11 => ⟨S8x16x256, .f32⟩
  | 12 => ⟨S8x16x8x32, .f32⟩
  | 13 => ⟨S8x8x16x32, .f32⟩
  | 14 => ⟨S64x16x32, .f32⟩
  | 15 => ⟨S8x16x256, .f32⟩
  | 16 => ⟨S8x16x8x32, .f32⟩
  | 17 => ⟨S8x8x16x32, .f32⟩
  | 18 => ⟨S64x16x32, .f32⟩
  | 19 => ⟨S8x128x256, .f32⟩
  | 20 => ⟨S8x128x8x32, .f32⟩
  | 21 => ⟨S8x8x128x32, .f32⟩
  | 22 => ⟨S64x128x32, .f32⟩
  | 23 => ⟨S1024x64x256, .f32⟩
  | 24 => ⟨S1024x64x8x32, .f32⟩
  | 25 => ⟨S1024x8x64x32, .f32⟩
  | 26 => ⟨S8192x64x32, .f32⟩
  | 27 => ⟨S1024x64x256, .f32⟩
  | 28 => ⟨S1024x64x8x32, .f32⟩
  | 29 => ⟨S1024x8x64x32, .f32⟩
  | 30 => ⟨S8192x64x32, .f32⟩
  | 31 => ⟨S64x32x128, .f32⟩
  | 32 => ⟨S64x16x128, .f32⟩
  | 33 => ⟨S_, .f32⟩
  | 34 => ⟨S_, .f32⟩
  | 35 => ⟨S64x16x128, .f32⟩
  | 36 => ⟨S64x16x128, .f32⟩
  | 37 => ⟨S8x128, .i32⟩
  | 38 => ⟨S1024, .i32⟩
  | 39 => ⟨S1024x128, .f32⟩
  | 40 => ⟨S128, .i32⟩
  | 41 => ⟨S1x128, .i32⟩
  | 42 => ⟨S1024x1, .i32⟩
  | 43 => ⟨S1024x128, .i32⟩
  | 44 => ⟨S1024x128, .i32⟩
  | 45 => ⟨S1024x128, .i1⟩
  | 46 => ⟨S_, .f32⟩
  | 47 => ⟨S_, .f32⟩
  | 48 => ⟨S1024x128, .f32⟩
  | 49 => ⟨S1024x128, .f32⟩
  | 50 => ⟨S64x16x128, .f32⟩
  | 51 => ⟨S64x16x8, .f32⟩
  | 52 => ⟨S64x16x8, .i32⟩
  | 53 => ⟨S_, .f32⟩
  | 54 => ⟨S64x16x128, .f32⟩
  | 55 => ⟨S64, .i32⟩
  | 56 => ⟨S64x1x1, .i32⟩
  | 57 => ⟨S16, .i32⟩
  | 58 => ⟨S1x16x1, .i32⟩
  | 59 => ⟨S_, .i32⟩
  | 60 => ⟨S64x1x1, .i32⟩
  | 61 => ⟨S64x1x1, .i1⟩
  | 62 => ⟨S_, .i32⟩
  | 63 => ⟨S64x1x1, .i32⟩
  | 64 => ⟨S64x1x1, .i32⟩
  | 65 => ⟨S64x1x1, .i32⟩
  | 66 => ⟨S_, .i32⟩
  | 67 => ⟨S1x16x1, .i32⟩
  | 68 => ⟨S1x16x1, .i1⟩
  | 69 => ⟨S_, .i32⟩
  | 70 => ⟨S1x16x1, .i32⟩
  | 71 => ⟨S1x16x1, .i32⟩
  | 72 => ⟨S1x16x1, .i32⟩
  | 73 => ⟨S_, .i32⟩
  | 74 => ⟨S64x16x8, .i32⟩
  | 75 => ⟨S64x16x8, .i1⟩
  | 76 => ⟨S_, .i32⟩
  | 77 => ⟨S64x16x8, .i32⟩
  | 78 => ⟨S64x16x8, .i32⟩
  | 79 => ⟨S64x16x8, .i32⟩
  | 80 => ⟨S64x16x8, .i32⟩
  | 81 => ⟨S64x16x8, .i32⟩
  | 82 => ⟨S64x16x8x1, .i32⟩
  | 83 => ⟨S64x16x8x1, .i32⟩
  | 84 => ⟨S64x16x8x1, .i32⟩
  | 85 => ⟨S64x16x8x3, .i32⟩
  | 86 => ⟨S64x16x128, .f32⟩
  | 87 => ⟨S_, .f32⟩
  | 88 => ⟨S64x16, .f32⟩
  | 89 => ⟨S_, .f32⟩
  | 90 => ⟨S64x16, .f32⟩
  | 91 => ⟨S64x16, .f32⟩
  | 92 => ⟨S64x16x1, .f32⟩
  | 93 => ⟨S64x16x128, .f32⟩
  | 94 => ⟨S64x16x128, .f32⟩
  | 95 => ⟨S64x16x128, .f32⟩
  | 96 => ⟨S_, .f32⟩
  | 97 => ⟨S64x16, .f32⟩
  | 98 => ⟨S64x16x1, .f32⟩
  | 99 => ⟨S64x16x128, .f32⟩
  | 100 => ⟨S64x16x128, .f32⟩
  | 101 => ⟨S64x128x16x32, .f32⟩
  | 102 => ⟨S8192x16x32, .f32⟩
  | 103 => ⟨S8x128x8x64x32, .f32⟩
  | 104 => ⟨S8x8x128x64x32, .f32⟩
  | 105 => ⟨S8192x64x32, .f32⟩
  | 106 => ⟨S8192x32x64, .f32⟩
  | 107 => ⟨S8192x16x64, .f32⟩
  | 108 => ⟨S_, .f32⟩
  | 109 => ⟨S_, .f32⟩
  | 110 => ⟨S8192x16x64, .f32⟩
  | 111 => ⟨S8192x16x64, .f32⟩
  | 112 => ⟨S8192x16x16, .f32⟩
  | 113 => ⟨S8192x16x16, .i32⟩
  | 114 => ⟨S_, .f32⟩
  | 115 => ⟨S8192x16x64, .f32⟩
  | 116 => ⟨S8192x16x16, .f32⟩
  | 117 => ⟨S_, .i32⟩
  | 118 => ⟨S1, .i32⟩
  | 119 => ⟨S8192x16x64, .f32⟩
  | 120 => ⟨S_, .f32⟩
  | 121 => ⟨S8192x16, .f32⟩
  | 122 => ⟨S_, .f32⟩
  | 123 => ⟨S8192x16, .f32⟩
  | 124 => ⟨S8192x16, .f32⟩
  | 125 => ⟨S8192x16x1, .f32⟩
  | 126 => ⟨S8192x16x64, .f32⟩
  | 127 => ⟨S8192x16x64, .f32⟩
  | _ => ⟨S8x16x256, .f32⟩

abbrev hbmTy0_1 (i : Nat) : BufTy := match i % 128 with
  | 0 => ⟨S8192x16x64, .f32⟩
  | 1 => ⟨S_, .f32⟩
  | 2 => ⟨S8192x16, .f32⟩
  | 3 => ⟨S8192x16x1, .f32⟩
  | 4 => ⟨S8192x16x64, .f32⟩
  | 5 => ⟨S8192x16x64, .f32⟩
  | 6 => ⟨S64x128x16x64, .f32⟩
  | 7 => ⟨S64x16x128x64, .f32⟩
  | 8 => ⟨S64x16x128x1, .f32⟩
  | 9 => ⟨S64x16x128x64, .f32⟩
  | 10 => ⟨S64x16x128x64, .f32⟩
  | 11 => ⟨S64x16x8192, .f32⟩
  | 12 => ⟨S8x128x8x64x32, .f32⟩
  | 13 => ⟨S8x8x128x64x32, .f32⟩
  | 14 => ⟨S64x8192x32, .f32⟩
  | 15 => ⟨S64x16x32, .f32⟩
  | 16 => ⟨S8x8x16x32, .f32⟩
  | 17 => ⟨S8x16x8x32, .f32⟩
  | 18 => ⟨S8x16x256, .f32⟩
  | 19 => ⟨S8x16x256, .f32⟩
  | _ => ⟨S8x16x256, .f32⟩

abbrev hbmTy (i : Nat) : BufTy := match i / 128 with
  | 0 => hbmTy0_0 i
  | 1 => hbmTy0_1 i
  | _ => ⟨S8x16x256, .f32⟩

abbrev bufTy : (tb : Table) → Fin (tcTables nBuf tb) → BufTy
  | .hbm, ⟨i, _⟩ => hbmTy i
  | _, _ => ⟨S8x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_0 : Ref sig .tc := ⟨.hbm, 46, rfl⟩
abbrev main_call0_v0 : Ref sig .tc := ⟨.hbm, 47, rfl⟩
abbrev main_call0_v1 : Ref sig .tc := ⟨.hbm, 48, rfl⟩
abbrev main_v34 : Ref sig .tc := ⟨.hbm, 49, rfl⟩
abbrev main_v35 : Ref sig .tc := ⟨.hbm, 50, rfl⟩
abbrev main_values : Ref sig .tc := ⟨.hbm, 51, rfl⟩
abbrev main_indices : Ref sig .tc := ⟨.hbm, 52, rfl⟩
abbrev main_cst_1 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c : Ref sig .tc := ⟨.hbm, 59, rfl⟩
abbrev main_v41 : Ref sig .tc := ⟨.hbm, 60, rfl⟩
abbrev main_v42 : Ref sig .tc := ⟨.hbm, 61, rfl⟩
abbrev main_c_2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_3 : Ref sig .tc := ⟨.hbm, 66, rfl⟩
abbrev main_v46 : Ref sig .tc := ⟨.hbm, 67, rfl⟩
abbrev main_v47 : Ref sig .tc := ⟨.hbm, 68, rfl⟩
abbrev main_c_4 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_5 : Ref sig .tc := ⟨.hbm, 73, rfl⟩
abbrev main_v51 : Ref sig .tc := ⟨.hbm, 74, rfl⟩
abbrev main_v52 : Ref sig .tc := ⟨.hbm, 75, rfl⟩
abbrev main_c_6 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_10 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_values_11 : Ref sig .tc := ⟨.hbm, 112, rfl⟩
abbrev main_indices_12 : Ref sig .tc := ⟨.hbm, 113, rfl⟩
abbrev main_cst_13 : Ref sig .tc := ⟨.hbm, 114, rfl⟩
abbrev main_v84 : Ref sig .tc := ⟨.hbm, 115, rfl⟩
abbrev main_v85 : Ref sig .tc := ⟨.hbm, 116, rfl⟩
abbrev main_c_14 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_v88 : Ref sig .tc := ⟨.hbm, 121, rfl⟩
abbrev main_cst_16 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_17 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩

abbrev nD : Nat := 1
abbrev τ : Topo := Topo.v7x

variable {F : FTy → Type} [FloatOps F]
-- ==== Proof.KernelIdeal.Ring.lean ====
/- The two rings of the kernel, stated once for both.

   The kernel streams the last sixteen tokens of every sequence of two arrays (the token keys and the values) from HBM
   through three-slot buffers, two sequences ahead of the one it works on. A ring is given by the array it reads, the
   buffer it lands in and the row of semaphores it signals on; everything below is over those three. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

/-! ## The memrefs -/

/-- The kernel's scratch, whole: the projected queries of every head, the attention weights of the statistic stage, and
    the two ring buffers. -/
abbrev qkM : Memref sig .tc .vmem S8x128x256 .f32 := Memref.whole cc0_scratch0
abbrev wM : Memref sig .tc .vmem S1024x128 .f32 := Memref.whole cc0_scratch1
abbrev tkM : Memref sig .tc .vmem S3x128x16x256 .f32 := Memref.whole cc0_scratch2
abbrev vM : Memref sig .tc .vmem S3x128x16x256 .f32 := Memref.whole cc0_scratch3
/-- The two arrays left in HBM. -/
abbrev tkA : Memref sig .tc .hbm S1024x64x256 .f32 := Memref.whole main_arg2
abbrev vA : Memref sig .tc .hbm S1024x64x256 .f32 := Memref.whole main_arg3

/-- The contents of a memref's buffer on core `c`, and the buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

instance : NeZero grid0.N := ⟨by rw [N_0]; decide⟩

/-- Slots, -/
theorem inb_slot (s : Fin 3) : ∀ a, (![s.val, 0, 0, 0] : Fin 4 → Nat) a + S1x128x16x256.size a ≤ S3x128x16x256.size a := by
  have := s.isLt; intro a; fin_cases a <;> simp <;> omega
/-- sources -/
theorem inb_src (b : Fin 8) : ∀ a, (![128 * b.val, 48, 0] : Fin 3 → Nat) a + S128x16x256.size a ≤ S1024x64x256.size a := by
  have := b.isLt; intro a; fin_cases a <;> simp <;> omega
/-- and cells lie within their arrays. -/
theorem inb_cell (r : Fin 2) (s : Fin 3) : ∀ a, (![r.val, s.val] : Fin 2 → Nat) a + S1x1.size a ≤ S2x3.size a := by
  have := r.isLt; have := s.isLt; intro a; fin_cases a <;> simp <;> omega

/-- Slot `s` of a ring buffer. -/
def rslot (D : Memref sig .tc .vmem S3x128x16x256 .f32) (s : Fin 3) : Memref sig .tc .vmem S128x16x256 .f32 :=
  (D.slice (Rect.unit (s := S3x128x16x256) ![s.val, 0, 0, 0] S1x128x16x256.size (inb_slot s)) (fun _ => rfl)).squeeze S128x16x256 squeezes_S1x128x16x256_S128x16x256
/-- Block `b` of a streamed array: its 128 rows, the last sixteen tokens of each. -/
def srcB (A : Memref sig .tc .hbm S1024x64x256 .f32) (b : Fin 8) : Memref sig .tc .hbm S128x16x256 .f32 :=
  A.slice (Rect.unit (s := S1024x64x256) ![128 * b.val, 48, 0] S128x16x256.size (inb_src b)) (fun _ => rfl)
/-- Semaphore `s` of ring `r`. -/
def cellA (r : Fin 2) (s : Fin 3) : DmaSems sig S_ := (cc0_scratch4.slice (Rect.unit (s := S2x3) ![r.val, s.val] S1x1.size (inb_cell r s))).squeeze S_ squeezes_S1x1_S_
abbrev cellR (r : Fin 2) (s : Fin 3) : SemLoc sig := SemLoc.dma (cellA r s).sem
/-- The numbers of the cells. -/
theorem cellR_0 : cellR 0 0 = SemLoc.dma 11 ∧ cellR 0 1 = SemLoc.dma 12 ∧ cellR 0 2 = SemLoc.dma 13 := by decide
theorem cellR_1 : cellR 1 0 = SemLoc.dma 14 ∧ cellR 1 1 = SemLoc.dma 15 ∧ cellR 1 2 = SemLoc.dma 16 := by decide

/-! ## What a ring is made of -/

section Ring
variable (c : Dev nD) (A : Memref sig .tc .hbm S1024x64x256 .f32) (D : Memref sig .tc .vmem S3x128x16x256 .f32) (r : Fin 2)
variable (W : Bf (F := F) c A)

/-- The share of the streamed array that slot `s`'s transfers borrow from: the three together are the whole. -/
abbrev qs (s : Fin 3) : PosShare TreeShare := if s.val = 0 then fullShare.left else if s.val = 1 then fullShare.right.left else fullShare.right.right
/-- Slot `s` held at `f`; semaphore `s` at zero; block `b` of slot `s`'s share of the array; the rest of that share; the
    share whole. -/
abbrev slotP (s : Fin 3) (f : Bf (F := F) c (rslot D s)) : sProp 𝕄 := (rslot D s).view.loc (c : Thread nD τ) ↦[(rslot D s).view.set]{fullShare} f
abbrev cellP (s : Fin 3) : sProp 𝕄 := semVal ((c : Thread nD τ), cellR r s) 0
abbrev srcP (s : Fin 3) (b : Fin 8) : sProp 𝕄 := (srcB A b).view.loc (c : Thread nD τ) ↦[(srcB A b).view.set]{qs s} W
/-- What of the source is not being copied. -/
def restP (s : Fin 3) (b : Fin 8) : sProp 𝕄 := A.view.loc (c : Thread nD τ) ↦[Finset.univ \ (srcB A b).view.set]{qs s} W
abbrev wholeP (s : Fin 3) : sProp 𝕄 := A.view.loc (c : Thread nD τ) ↦[Finset.univ]{qs s} W
/-- Slot `s` after block `b` has landed in it. -/
abbrev landed (s : Fin 3) (b : Fin 8) (f : Bf (F := F) c (rslot D s)) : Bf (F := F) c (rslot D s) :=
  (rslot D s).view.writes (Elt F) f [⟨Rect.whole S128x16x256, ReadAs.same.apply ((srcB A b).view.read (Elt F) W)⟩]
/-- Block `b` on its way into slot `s`, last holding `f`. -/
abbrev flightP (s : Fin 3) (b : Fin 8) (f : Bf (F := F) c (rslot D s)) : sProp 𝕄 :=
  Transfers.Flight countersEmb (c : Thread nD τ) (cellR r s) default ((rslot D s).view.amount (cellR r s))
    iprop(slotP c D s (landed c A D W s b f) ∗ srcP c A W s b)
/-- A free slot carries its share of the array whole, a flight the rest of the share it borrowed from. -/
abbrev slotW (s : Fin 3) (f : Bf (F := F) c (rslot D s)) : sProp 𝕄 := iprop(slotP c D s f ∗ wholeP c A W s)
abbrev flightW (s : Fin 3) (b : Fin 8) (f : Bf (F := F) c (rslot D s)) : sProp 𝕄 := iprop(flightP c A D r W s b f ∗ restP c A W s b)
abbrev noHome (b : Fin 8) : sProp 𝕄 := iprop(emp)

/-- A landed slot is the same whatever the slot held before: the block covers it. -/
theorem slotP_landed (s : Fin 3) (b : Fin 8) (f g : Bf (F := F) c (rslot D s)) :
    slotP (F := F) c D s (landed c A D W s b f) = slotP c D s (landed c A D W s b g) := by
  refine pointsTo_congr fun i hi => ?_
  obtain ⟨x, -, rfl⟩ := Finset.mem_map.mp hi
  have h := fun f : Bf (F := F) c (rslot D s) => View.read_writes_of_cover (rslot D s).view f (rslot D s).view g
    [⟨Rect.whole S128x16x256, ReadAs.same.apply ((srcB A b).view.read (Elt F) W)⟩]
    (fun y => ⟨_, List.mem_singleton_self _, by rw [Rect.set_whole]; exact Finset.mem_univ _⟩)
  have h' := congrFun (h f) x
  simpa only [View.read_apply, cast_inj] using h'

/-- So a flight does not depend on it either. -/
theorem flightP_eq (s : Fin 3) (b : Fin 8) (f g : Bf (F := F) c (rslot D s)) :
    flightP (F := F) c A D r W s b f = flightP c A D r W s b g := by
  unfold flightP; rw [slotP_landed c A D W s b f g]

/-- The ring before grid point `t`: every slot free before the first point; before a later one blocks `t - 1` and `t` in
    flight, as far as they exist, and the third slot free. -/
def ringAt (t : ℕ) : sProp 𝕄 :=
  if t = 0 then Ring.At₀ (cellP c r) (slotW c A D W) noHome
  else Ring.At 2 (cellP c r) (slotW c A D W) noHome (flightW c A D r W) (t - 1)

/-- A slot's share of the array is block `b` of it and the rest. -/
theorem src_split (s : Fin 3) (b : Fin 8) : wholeP (F := F) c A W s ⊣⊢ iprop(srcP c A W s b ∗ restP c A W s b) := by
  unfold restP; exact pointsTo_split_subset (Finset.subset_univ _)

/-- The array whole is the three shares. -/
theorem whole_split : (pt c A W : sProp 𝕄) ⊣⊢ iprop(wholeP c A W 0 ∗ wholeP c A W 1 ∗ wholeP c A W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

end Ring

/-! ## A ring buffer is its three slots -/

abbrev slotSet (s : Fin 3) : Finset S3x128x16x256.Idx := (Rect.unit (s := S3x128x16x256) ![s.val, 0, 0, 0] S1x128x16x256.size (inb_slot s)).set
/-- Slots do not meet -/
theorem slots_disjoint (s s' : Fin 3) (h : s ≠ s') : Disjoint (slotSet s) (slotSet s') :=
  Ring.lead_disjoint (s := S3x128x16x256) (0 : Fin 4) 1 (fun s : Fin 3 => (![s.val, 0, 0, 0] : Fin 4 → Nat)) S1x128x16x256.size inb_slot (fun s => by simp) rfl s s' h
/-- and make up the buffer. -/
theorem slots_cover : Finset.univ.biUnion slotSet = Finset.univ :=
  Ring.lead_cover (s := S3x128x16x256) (0 : Fin 4) 1 (fun s : Fin 3 => (![s.val, 0, 0, 0] : Fin 4 → Nat)) S1x128x16x256.size inb_slot (fun s => by simp)
    (fun s a ha => by fin_cases a <;> first | exact absurd rfl ha | rfl) rfl (fun a ha => by fin_cases a <;> first | exact absurd rfl ha | rfl) rfl

/-- The same set for either buffer. -/
theorem slotSet_tk (s : Fin 3) : (rslot tkM s).view.set = slotSet s := by
  simp only [rslot, Memref.view_squeeze, View.set_reshape]; exact View.set_slice_whole _ _
theorem slotSet_v (s : Fin 3) : (rslot vM s).view.set = slotSet s := by
  simp only [rslot, Memref.view_squeeze, View.set_reshape]; exact View.set_slice_whole _ _

/-- A slot is its set of the buffer, for either. -/
theorem slotP_tk (c : Dev nD) (s : Fin 3) (f) : slotP (F := F) c tkM s f = (((c : Thread nD τ).loc cc0_scratch2) ↦[slotSet s]{fullShare} f : sProp 𝕄) := by
  unfold slotP; rw [slotSet_tk]; rfl
theorem slotP_v (c : Dev nD) (s : Fin 3) (f) : slotP (F := F) c vM s f = (((c : Thread nD τ).loc cc0_scratch3) ↦[slotSet s]{fullShare} f : sProp 𝕄) := by
  unfold slotP; rw [slotSet_v]; rfl

/-- The three slots of a ring buffer, each at something. -/
abbrev slots (c : Dev nD) (D : Memref sig .tc .vmem S3x128x16x256 .f32) : sProp 𝕄 :=
  iprop((∃ f, slotP (F := F) c D 0 f) ∗ (∃ f, slotP (F := F) c D 1 f) ∗ ∃ f, slotP (F := F) c D 2 f)

set_option maxHeartbeats 1000000 in
/-- A buffer is its three slots, for either. -/
theorem slots_tk (c : Dev nD) : (iprop(∃ d, owns (c : Thread nD τ) tkM fullShare d) : sProp 𝕄) ⊣⊢ slots (F := F) c tkM := by
  simp only [tkM, owns_whole]
  exact ⟨Ring.slots3_split (U := Pipeline.UD sig nD τ) (ℓ := (c : Thread nD τ).loc cc0_scratch2) (q := fullShare) slotSet slots_disjoint slots_cover
      (slotP c tkM 0) (slotP c tkM 1) (slotP c tkM 2) (slotP_tk c 0) (slotP_tk c 1) (slotP_tk c 2),
    Ring.slots3_join (U := Pipeline.UD sig nD τ) (ℓ := (c : Thread nD τ).loc cc0_scratch2) (q := fullShare) slotSet slots_disjoint slots_cover
      (slotP c tkM 0) (slotP c tkM 1) (slotP c tkM 2) (slotP_tk c 0) (slotP_tk c 1) (slotP_tk c 2)⟩
set_option maxHeartbeats 1000000 in
theorem slots_v (c : Dev nD) : (iprop(∃ d, owns (c : Thread nD τ) vM fullShare d) : sProp 𝕄) ⊣⊢ slots (F := F) c vM := by
  simp only [vM, owns_whole]
  exact ⟨Ring.slots3_split (U := Pipeline.UD sig nD τ) (ℓ := (c : Thread nD τ).loc cc0_scratch3) (q := fullShare) slotSet slots_disjoint slots_cover
      (slotP c vM 0) (slotP c vM 1) (slotP c vM 2) (slotP_v c 0) (slotP_v c 1) (slotP_v c 2),
    Ring.slots3_join (U := Pipeline.UD sig nD τ) (ℓ := (c : Thread nD τ).loc cc0_scratch3) (q := fullShare) slotSet slots_disjoint slots_cover
      (slotP c vM 0) (slotP c vM 1) (slotP c vM 2) (slotP_v c 0) (slotP_v c 1) (slotP_v c 2)⟩

/-! ## Into a ring and out of it -/

section InOut
variable (c : Dev nD) (A : Memref sig .tc .hbm S1024x64x256 .f32) (D : Memref sig .tc .vmem S3x128x16x256 .f32) (r : Fin 2)
variable (W : Bf (F := F) c A)

/-- The slots, the semaphores at zero and the array whole are the ring before the first point, -/
theorem ring_in : iprop(slots (F := F) c D ∗ (cellP (F := F) c r 0 ∗ cellP c r 1 ∗ cellP c r 2) ∗ pt c A W) ⊢ ringAt c A D r W 0 := by
  unfold ringAt; rw [if_pos rfl]; unfold Ring.At₀
  rw [Ring.bigSep_fin3]
  simp only [Ring.free]
  iintro ⟨⟨⟨%d0, HS0⟩, ⟨%d1, HS1⟩, ⟨%d2, HS2⟩⟩, ⟨H0, H1, H2⟩, HW⟩
  iapply Ring.with_homes₀
  ihave HW' := (whole_split (F := F) c A W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2

/-- and come back after the last one. -/
theorem ring_out : ringAt c A D r W 9 ⊢ iprop(slots (F := F) c D ∗ (cellP (F := F) c r 0 ∗ cellP c r 1 ∗ cellP c r 2) ∗ pt c A W) := by
  unfold ringAt; rw [if_neg (by decide)]
  iintro H
  ihave H' := (Ring.free3_of_At_last _ _ _ _) $$ H
  simp only [Ring.free]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole_split (F := F) c A W).2; isplitl [HW0]; · iexact HW0
    isplitl [HW1]; · iexact HW1
    iexact HW2

end InOut

end Cert.KernelIdeal.Run

end
-- ==== Proof.KernelIdeal.Points.lean ====
/- The kernel's points, and what its slices are called there.

   The grid has nine points. The first runs the statistic stage and starts the first two blocks of each ring; point
   `t ≥ 1` runs the token stage of sequence block `t - 1`, starting block `t + 1` first where there is one. -/
module

public import proofs.«01_k».proof.Proof.KernelIdeal.Ring

@[expose] public section

set_option maxRecDepth 16384

noncomputable section

namespace Cert.KernelIdeal.Run

open Idealize.ShloMosaic Idealize.ShloMosaic.TcCoe Idealize.ShloMosaic.Tactic
open Cert.KernelIdeal.Gen

/-! ## The three branch conditions -/

/-- The statistic stage runs; the token stage runs; the token stage starts a block. -/
abbrev isStat (i : grid0.Coords) : Prop := (Scalar.cmpi .ne (Scalar.extui (Scalar.cmpi .eq (BitVec.ofNat 32 (i 0).val) 0#32)) 0#32) = 1#1
abbrev isToken (i : grid0.Coords) : Prop := k0_cond2 i = 1#1
abbrev isAhead (i : grid0.Coords) : Prop := k0_cond3 i = 1#1

/-- Which points these are: the first, -/
theorem isStat_iff : ∀ t : Fin cfg0.N, isStat (grid0.coords t) ↔ t.val = 0 :=
  (by decide +kernel : ∀ t : Fin grid0.N, isStat (grid0.coords t) ↔ t.val = 0)
/-- all the others, -/
theorem isToken_iff : ∀ t : Fin cfg0.N, isToken (grid0.coords t) ↔ 1 ≤ t.val :=
  (by decide +kernel : ∀ t : Fin grid0.N, isToken (grid0.coords t) ↔ 1 ≤ t.val)
/-- and all but the last two. -/
theorem isAhead_iff : ∀ t : Fin cfg0.N, isAhead (grid0.coords t) ↔ t.val < 7 :=
  (by decide +kernel : ∀ t : Fin grid0.N, isAhead (grid0.coords t) ↔ t.val < 7)

/-! ## The first point's literal offsets -/

/-- The places that the first point names. -/
theorem off_first : ∀ t : Fin grid0.N, isStat (grid0.coords t) →
    ((![0, 0, 0, 0] : Fin 4 → Nat) = ![(Ring.sl 3 t.val).val, 0, 0, 0] ∧ (![1, 0, 0, 0] : Fin 4 → Nat) = ![(Ring.sl 3 (t.val + 1)).val, 0, 0, 0])
    ∧ ((![0, 48, 0] : Fin 3 → Nat) = ![128 * (Ring.bk 8 t.val).val, 48, 0] ∧ (![128, 48, 0] : Fin 3 → Nat) = ![128 * (Ring.bk 8 (t.val + 1)).val, 48, 0])
    ∧ ((![0, 0] : Fin 2 → Nat) = ![(0 : Fin 2).val, (Ring.sl 3 t.val).val] ∧ (![0, 1] : Fin 2 → Nat) = ![(0 : Fin 2).val, (Ring.sl 3 (t.val + 1)).val])
    ∧ ((![1, 0] : Fin 2 → Nat) = ![(1 : Fin 2).val, (Ring.sl 3 t.val).val] ∧ (![1, 1] : Fin 2 → Nat) = ![(1 : Fin 2).val, (Ring.sl 3 (t.val + 1)).val]) := by
  decide +kernel

/-! ## The token stage's offsets, in closed form -/

/-- The places that a token point names, for the block ahead and for its own. -/
theorem off_cell_next0 : ∀ t : Fin grid0.N, isToken (grid0.coords t) → isAhead (grid0.coords t) → k0_off1 (grid0.coords t) = ![(0 : Fin 2).val, (Ring.sl 3 (t.val - 1 + 2)).val] := by decide +kernel
theorem off_cell_next1 : ∀ t : Fin grid0.N, isToken (grid0.coords t) → isAhead (grid0.coords t) → k0_off4 (grid0.coords t) = ![(1 : Fin 2).val, (Ring.sl 3 (t.val - 1 + 2)).val] := by decide +kernel
theorem off_slot_next : ∀ t : Fin grid0.N, isToken (grid0.coords t) → isAhead (grid0.coords t) → k0_off2 (grid0.coords t) = ![(Ring.sl 3 (t.val - 1 + 2)).val, 0, 0, 0] := by decide +kernel
theorem off_src_next : ∀ t : Fin grid0.N, isToken (grid0.coords t) → isAhead (grid0.coords t) → k0_off3 (grid0.coords t) = ![128 * (Ring.bk 8 (t.val - 1 + 2)).val, 48, 0] := by decide +kernel
theorem off_cell_here0 : ∀ t : Fin grid0.N, isToken (grid0.coords t) → k0_off5 (grid0.coords t) = ![(0 : Fin 2).val, (Ring.sl 3 (t.val - 1)).val] := by decide +kernel
theorem off_cell_here1 : ∀ t : Fin grid0.N, isToken (grid0.coords t) → k0_off8 (grid0.coords t) = ![(1 : Fin 2).val, (Ring.sl 3 (t.val - 1)).val] := by decide +kernel
theorem off_slot_here : ∀ t : Fin grid0.N, isToken (grid0.coords t) → k0_off6 (grid0.coords t) = ![(Ring.sl 3 (t.val - 1)).val, 0, 0, 0] := by decide +kernel
theorem off_src_here : ∀ t : Fin grid0.N, isToken (grid0.coords t) → k0_off7 (grid0.coords t) = ![128 * (Ring.bk 8 (t.val - 1)).val, 48, 0] := by decide +kernel
theorem off_load_here : ∀ t : Fin grid0.N, isToken (grid0.coords t) → k0_off11 (grid0.coords t) = ![(Ring.sl 3 (t.val - 1)).val, 0, 0, 0] := by decide +kernel
theorem off_qk_here : ∀ t : Fin grid0.N, isToken (grid0.coords t) → k0_off9 (grid0.coords t) = ![0, 16 * (t.val - 1), 0] := by decide +kernel
theorem off_w_here : ∀ t : Fin grid0.N, isToken (grid0.coords t) → k0_off10 (grid0.coords t) = ![128 * (t.val - 1), 0] := by decide +kernel

/-! ## A slice by its offset -/

section Slices
variable (A : Memref sig .tc .hbm S1024x64x256 .f32) (D : Memref sig .tc .vmem S3x128x16x256 .f32) (r : Fin 2)

/-- A slot, a block, a semaphore written at any offset that is its own. -/
theorem rslot_of (s : Fin 3) (o : Fin 4 → Nat) (h : o = ![s.val, 0, 0, 0]) (inb : ∀ a, o a + S1x128x16x256.size a ≤ S3x128x16x256.size a) :
    (D.slice (Rect.unit (s := S3x128x16x256) o S1x128x16x256.size inb) (fun _ => rfl)).squeeze S128x16x256 squeezes_S1x128x16x256_S128x16x256 = rslot D s := by
  subst h; rfl
/-- A place of a source, of -/
theorem srcB_of (b : Fin 8) (o : Fin 3 → Nat) (h : o = ![128 * b.val, 48, 0]) (inb : ∀ a, o a + S128x16x256.size a ≤ S1024x64x256.size a) :
    A.slice (Rect.unit (s := S1024x64x256) o S128x16x256.size inb) (fun _ => rfl) = srcB A b := by
  subst h; rfl
/-- a cell, by its numbers. -/
theorem cellA_of (s : Fin 3) (o : Fin 2 → Nat) (h : o = ![r.val, s.val]) (inb : ∀ a, o a + S1x1.size a ≤ S2x3.size a) :
    (cc0_scratch4.slice (Rect.unit (s := S2x3) o S1x1.size inb)).squeeze S_ squeezes_S1x1_S_ = cellA r s := by
  subst h; rfl

end Slices

section Names
variable (t : Fin grid0.N)

/-- The slots, sources and cells of the block ahead and of its own, in the terms of the ring. -/
@[sl_canon] theorem slot_next (D : Memref sig .tc .vmem S3x128x16x256 .f32) (h2 : isToken (grid0.coords t)) (h3 : isAhead (grid0.coords t)) :
    (D.slice (Rect.unit (s := S3x128x16x256) (k0_off2 (grid0.coords t)) S1x128x16x256.size (k0_off2_inb (grid0.coords t) h2 h3)) (fun _ => rfl)).squeeze S128x16x256 squeezes_S1x128x16x256_S128x16x256 = rslot D (Ring.sl 3 (t.val - 1 + 2)) :=
  rslot_of D _ _ (off_slot_next t h2 h3) _
@[sl_canon] theorem slot_here (D : Memref sig .tc .vmem S3x128x16x256 .f32) (h2 : isToken (grid0.coords t)) :
    (D.slice (Rect.unit (s := S3x128x16x256) (k0_off6 (grid0.coords t)) S1x128x16x256.size (k0_off6_inb (grid0.coords t) h2)) (fun _ => rfl)).squeeze S128x16x256 squeezes_S1x128x16x256_S128x16x256 = rslot D (Ring.sl 3 (t.val - 1)) :=
  rslot_of D _ _ (off_slot_here t h2) _
@[sl_canon] theorem src_next (A : Memref sig .tc .hbm S1024x64x256 .f32) (h2 : isToken (grid0.coords t)) (h3 : isAhead (grid0.coords t)) :
    A.slice (Rect.unit (s := S1024x64x256) (k0_off3 (grid0.coords t)) S128x16x256.size (k0_off3_inb (grid0.coords t) h2 h3)) (fun _ => rfl) = srcB A (Ring.bk 8 (t.val - 1 + 2)) :=
  srcB_of A _ _ (off_src_next t h2 h3) _
@[sl_canon] theorem src_here (A : Memref sig .tc .hbm S1024x64x256 .f32) (h2 : isToken (grid0.coords t)) :
    A.slice (Rect.unit (s := S1024x64x256) (k0_off7 (grid0.coords t)) S128x16x256.size (k0_off7_inb (grid0.coords t) h2)) (fun _ => rfl) = srcB A (Ring.bk 8 (t.val - 1)) :=
  srcB_of A _ _ (off_src_here t h2) _
@[sl_canon] theorem cell_next0 (h2 : isToken (grid0.coords t)) (h3 : isAhead (grid0.coords t)) :
    (cc0_scratch4.slice (Rect.unit (s := S2x3) (k0_off1 (grid0.coords t)) S1x1.size (k0_off1_inb (grid0.coords t) h2 h3))).squeeze S_ squeezes_S1x1_S_ = cellA 0 (Ring.sl 3 (t.val - 1 + 2)) :=
  cellA_of 0 _ _ (off_cell_next0 t h2 h3) _
@[sl_canon] theorem cell_next1 (h2 : isToken (grid0.coords t)) (h3 : isAhead (grid0.coords t)) :
    (cc0_scratch4.slice (Rect.unit (s := S2x3) (k0_off4 (grid0.coords t)) S1x1.size (k0_off4_inb (grid0.coords t) h2 h3))).squeeze S_ squeezes_S1x1_S_ = cellA 1 (Ring.sl 3 (t.val - 1 + 2)) :=
  cellA_of 1 _ _ (off_cell_next1 t h2 h3) _
@[sl_canon] theorem cell_here0 (h2 : isToken (grid0.coords t)) :
    (cc0_scratch4.slice (Rect.unit (s := S2x3) (k0_off5 (grid0.coords t)) S1x1.size (k0_off5_inb (grid0.coords t) h2))).squeeze S_ squeezes_S1x1_S_ = cellA 0 (Ring.sl 3 (t.val - 1)) :=
  cellA_of 0 _ _ (off_cell_here0 t h2) _
@[sl_canon] theorem cell_here1 (h2 : isToken (grid0.coords t)) :
    (cc0_scratch4.slice (Rect.unit (s := S2x3) (k0_off8 (grid0.coords t)) S1x1.size (k0_off8_inb (grid0.coords t) h2))).squeeze S_ squeezes_S1x1_S_ = cellA 1 (Ring.sl 3 (t.val - 1)) :=
  cellA_of 1 _ _ (off_cell_here1 t h2) _

/-- The token stage reads a slot at the block it has just waited for. -/
instance (priority := high) closedLoad [h : Fact (isToken (grid0.coords t))] : ClosedOff (k0_off11 (grid0.coords t)) :=
  ⟨![(Ring.sl 3 (t.val - 1)).val, 0, 0, 0], off_load_here t h.out⟩

end Names

end Cert.KernelIdeal.Run

end
-- ==== Proof.KernelIdeal.Stat.lean ====
/- What the first point does: the statistic stage. -/
module

public import proofs.«01_k».proof.Proof.KernelIdeal.Points

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

set_option maxHeartbeats 4000000 in
/-- At the first point, on whole staging memrefs, the body runs to its return: it hands back the inputs as they were and the
    result's buffer untouched; the projected queries and the weights are written with the pieces the run finds; the first two
    blocks of each ring are in flight and the third slot is free. -/
def statRun (c : Dev nD) (t : Fin cfg0.N)
    (arg1 : Memref sig .tc .smem S1x8 .i32) (harg1 : arg1.IsWhole) (arg2 : Memref sig .tc .vmem S128x256 .f32) (harg2 : arg2.IsWhole)
    (arg3 : Memref sig .tc .vmem S1024x256 .f32) (harg3 : arg3.IsWhole) (arg4 : Memref sig .tc .vmem S256x256 .f32) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S256x256 .f32) (harg7 : arg7.IsWhole) (arg10 : Memref sig .tc .vmem S256x256 .f32) (harg10 : arg10.IsWhole)
    (arg11 : Memref sig .tc .vmem S256x256 .f32) (harg11 : arg11.IsWhole) (arg12 : Memref sig .tc .vmem S1x16x256 .f32) (harg12 : arg12.IsWhole)
    (hc1 : isStat (grid0.coords t)) (hc2 : ¬isToken (grid0.coords t))
    (x1 : Vec F S1x8 .i32) (x2 : Vec F S128x256 .f32) (x3 : Vec F S1024x256 .f32) (x4 x5 x6 x7 : Vec F S256x256 .f32)
    (fh0 : Bf (F := F) c tkA) (fh1 : Bf (F := F) c vA) :
    { L : List (View.Piece (Elt F) S8x128x256 .f32) × List (View.Piece (Elt F) S1024x128 .f32) //
      ∀ (x12 : Vec F S1x16x256 .f32) (W : Waits sig Unit) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg12 fullShare x12
            ∗ (∃ d, owns (c : Thread nD τ) qkM fullShare d) ∗ (∃ d, owns (c : Thread nD τ) wM fullShare d)
            ∗ Ring.free (cellP c 0) (slotW c tkA tkM fh0) (Ring.sl 3 t.val) ∗ Ring.free (cellP c 0) (slotW c tkA tkM fh0) (Ring.sl 3 (t.val + 1))
            ∗ Ring.free (cellP c 1) (slotW c vA vM fh1) (Ring.sl 3 t.val) ∗ Ring.free (cellP c 1) (slotW c vA vM fh1) (Ring.sl 3 (t.val + 1))
            ∗ owes (c : Thread nD τ) 0 W
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5 ∗ owns (c : Thread nD τ) arg6 fullShare x6
                ∗ owns (c : Thread nD τ) arg7 fullShare x7 ∗ owns (c : Thread nD τ) arg12 fullShare x12
                ∗ (∃ f, qkM.view.loc (c : Thread nD τ) ↦[qkM.view.set]{fullShare} qkM.view.writes (Elt F) f L.1)
                ∗ (∃ f, wM.view.loc (c : Thread nD τ) ↦[wM.view.set]{fullShare} wM.view.writes (Elt F) f L.2)
                ∗ Ring.inflight (flightW c tkA tkM 0 fh0) (Ring.sl 3 t.val) (Ring.bk 8 t.val) ∗ Ring.inflight (flightW c tkA tkM 0 fh0) (Ring.sl 3 (t.val + 1)) (Ring.bk 8 (t.val + 1))
                ∗ Ring.inflight (flightW c vA vM 1 fh1) (Ring.sl 3 t.val) (Ring.bk 8 t.val) ∗ Ring.inflight (flightW c vA vM 1 fh1) (Ring.sl 3 (t.val + 1)) (Ring.bk 8 (t.val + 1))
                ∗ (∃ W', owes (c : Thread nD τ) 0 W')) -∗ K ⟨⟩))
          ⊢ wp frame (wpE (defs₀ (F := F)) Variants.none c none) Set.univ
              (cc0__kernel (grid0.coords t) arg1 harg1 arg2 harg2 arg3 harg3 arg4 harg4 arg5 harg5 arg6 harg6 arg7 harg7 tkA (Memref.isWhole_whole _) vA (Memref.isWhole_whole _)
                arg10 harg10 arg11 harg11 arg12 harg12 qkM (Memref.isWhole_whole _) wM (Memref.isWhole_whole _) tkM (Memref.isWhole_whole _) vM (Memref.isWhole_whole _) cc0_scratch4) K } := by
  refine ⟨⟨?_, ?_⟩, fun x12 W K => ?run⟩
  case run =>
    haveI : Fact (isStat (grid0.coords t)) := ⟨hc1⟩
    haveI : Fact (¬isToken (grid0.coords t)) := ⟨hc2⟩
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton]
    obtain ⟨⟨o0, o1⟩, ⟨o2, o3⟩, ⟨o4, o5⟩, ⟨o6, o7⟩⟩ := off_first t hc1
    have hcanon0 := rslot_of tkM _ _ o0 inb_S3x128x16x256_S1x128x16x256_0_0_0_0
    have hcanon1 := rslot_of tkM _ _ o1 inb_S3x128x16x256_S1x128x16x256_1_0_0_0
    have hcanon2 := rslot_of vM _ _ o0 inb_S3x128x16x256_S1x128x16x256_0_0_0_0
    have hcanon3 := rslot_of vM _ _ o1 inb_S3x128x16x256_S1x128x16x256_1_0_0_0
    have hcanon4 := srcB_of tkA _ _ o2 inb_S1024x64x256_S128x16x256_0_48_0
    have hcanon5 := srcB_of tkA _ _ o3 inb_S1024x64x256_S128x16x256_128_48_0
    have hcanon6 := srcB_of vA _ _ o2 inb_S1024x64x256_S128x16x256_0_48_0
    have hcanon7 := srcB_of vA _ _ o3 inb_S1024x64x256_S128x16x256_128_48_0
    have hcanon8 := cellA_of 0 _ _ o4 inb_S2x3_S1x1_0_0
    have hcanon9 := cellA_of 0 _ _ o5 inb_S2x3_S1x1_0_1
    have hcanon10 := cellA_of 1 _ _ o6 inb_S2x3_S1x1_1_0
    have hcanon11 := cellA_of 1 _ _ o7 inb_S2x3_S1x1_1_1
    unfold owns Ring.free Ring.inflight
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HO,
      ⟨%dq, %fq, -, HQ⟩, ⟨%dw, %fw, -, HWt⟩,
      ⟨Hc00, ⟨%g00, Hs00, Hw00⟩⟩, ⟨Hc01, ⟨%g01, Hs01, Hw01⟩⟩, ⟨Hc10, ⟨%g10, Hs10, Hw10⟩⟩, ⟨Hc11, ⟨%g11, Hs11, Hw11⟩⟩, HW, Hk⟩
    ihave Hsp00 := (src_split c tkA fh0 (Ring.sl 3 t.val) (Ring.bk 8 t.val)).1 $$ Hw00
    icases Hsp00 with ⟨Hh00, Hr00⟩
    ihave Hsp01 := (src_split c tkA fh0 (Ring.sl 3 (t.val + 1)) (Ring.bk 8 (t.val + 1))).1 $$ Hw01
    icases Hsp01 with ⟨Hh01, Hr01⟩
    ihave Hsp10 := (src_split c vA fh1 (Ring.sl 3 t.val) (Ring.bk 8 t.val)).1 $$ Hw10
    icases Hsp10 with ⟨Hh10, Hr10⟩
    ihave Hsp11 := (src_split c vA fh1 (Ring.sl 3 (t.val + 1)) (Ring.bk 8 (t.val + 1))).1 $$ Hw11
    icases Hsp11 with ⟨Hh11, Hr11⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    sl_exec (disch := first | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]; · iexact HO
    isplitl [HQ]; · iexists _; iexact HQ
    isplitl [HWt]; · iexists _; iexact HWt
    isplitl [Hc00 Hr00]
    · iexists _; isplitl [Hc00]; · iexact Hc00
      iexact Hr00
    isplitl [Hc01 Hr01]
    · iexists _; isplitl [Hc01]; · iexact Hc01
      iexact Hr01
    isplitl [Hc10 Hr10]
    · iexists _; isplitl [Hc10]; · iexact Hc10
      iexact Hr10
    isplitl [Hc11 Hr11]
    · iexists _; isplitl [Hc11]; · iexact Hc11
      iexact Hr11
    iexists _; iexact HW

end Cert.KernelIdeal.Run

end
-- ==== Proof.KernelIdeal.Token.lean ====
/- What a later point does: the token stage of one sequence block. -/
module

public import proofs.«01_k».proof.Proof.KernelIdeal.Points

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

set_option maxHeartbeats 4000000 in
/-- At a token point that starts a block: the body hands back the scratch and the inputs as they were, the result's buffer
    written with the pieces the run finds, the waited slots free and the started blocks in flight. -/
def tokenRunAhead (c : Dev nD) (t : Fin cfg0.N)
    (arg1 : Memref sig .tc .smem S1x8 .i32) (harg1 : arg1.IsWhole) (arg2 : Memref sig .tc .vmem S128x256 .f32) (harg2 : arg2.IsWhole)
    (arg3 : Memref sig .tc .vmem S1024x256 .f32) (harg3 : arg3.IsWhole) (arg4 : Memref sig .tc .vmem S256x256 .f32) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S256x256 .f32) (harg7 : arg7.IsWhole) (arg10 : Memref sig .tc .vmem S256x256 .f32) (harg10 : arg10.IsWhole)
    (arg11 : Memref sig .tc .vmem S256x256 .f32) (harg11 : arg11.IsWhole) (arg12 : Memref sig .tc .vmem S1x16x256 .f32) (harg12 : arg12.IsWhole)
    (hc1 : ¬isStat (grid0.coords t)) (hc2 : isToken (grid0.coords t)) (hc3 : isAhead (grid0.coords t))
    (xq : Vec F S8x128x256 .f32) (xw : Vec F S1024x128 .f32) (x10 x11 : Vec F S256x256 .f32)
    (fh0 : Bf (F := F) c tkA) (fh1 : Bf (F := F) c vA) (g0 : Bf (F := F) c (rslot tkM (Ring.sl 3 (t.val - 1)))) (g1 : Bf (F := F) c (rslot vM (Ring.sl 3 (t.val - 1)))) :
    { L : List (View.Piece (Elt F) S1x16x256 .f32) //
      ∀ (W : Waits sig Unit) (K : PUnit → sProp 𝕄),
        iprop(owns (c : Thread nD τ) qkM fullShare xq ∗ owns (c : Thread nD τ) wM fullShare xw
            ∗ owns (c : Thread nD τ) arg10 fullShare x10 ∗ owns (c : Thread nD τ) arg11 fullShare x11
            ∗ (∃ d, owns (c : Thread nD τ) arg12 fullShare d)
            ∗ flightW c tkA tkM 0 fh0 (Ring.sl 3 (t.val - 1)) (Ring.bk 8 (t.val - 1)) g0 ∗ flightW c vA vM 1 fh1 (Ring.sl 3 (t.val - 1)) (Ring.bk 8 (t.val - 1)) g1
            ∗ Ring.free (cellP c 0) (slotW c tkA tkM fh0) (Ring.sl 3 (t.val - 1 + 2)) ∗ Ring.free (cellP c 1) (slotW c vA vM fh1) (Ring.sl 3 (t.val - 1 + 2))
            ∗ owes (c : Thread nD τ) 0 W
            ∗ (iprop(owns (c : Thread nD τ) qkM fullShare xq ∗ owns (c : Thread nD τ) wM fullShare xw
                ∗ owns (c : Thread nD τ) arg10 fullShare x10 ∗ owns (c : Thread nD τ) arg11 fullShare x11
                ∗ (∃ f, arg12.view.loc (c : Thread nD τ) ↦[arg12.view.set]{fullShare} arg12.view.writes (Elt F) f L)
                ∗ Ring.inflight (flightW c tkA tkM 0 fh0) (Ring.sl 3 (t.val - 1 + 2)) (Ring.bk 8 (t.val - 1 + 2)) ∗ Ring.inflight (flightW c vA vM 1 fh1) (Ring.sl 3 (t.val - 1 + 2)) (Ring.bk 8 (t.val - 1 + 2))
                ∗ Ring.free (cellP c 0) (slotW c tkA tkM fh0) (Ring.sl 3 (t.val - 1)) ∗ Ring.free (cellP c 1) (slotW c vA vM fh1) (Ring.sl 3 (t.val - 1))
                ∗ (∃ W', owes (c : Thread nD τ) 0 W')) -∗ K ⟨⟩))
          ⊢ wp frame (wpE (defs₀ (F := F)) Variants.none c none) Set.univ
              (cc0__kernel (grid0.coords t) arg1 harg1 arg2 harg2 arg3 harg3 arg4 harg4 arg5 harg5 arg6 harg6 arg7 harg7 tkA (Memref.isWhole_whole _) vA (Memref.isWhole_whole _)
                arg10 harg10 arg11 harg11 arg12 harg12 qkM (Memref.isWhole_whole _) wM (Memref.isWhole_whole _) tkM (Memref.isWhole_whole _) vM (Memref.isWhole_whole _) cc0_scratch4) K } := by
  refine ⟨?_, fun W K => ?run⟩
  case run =>
    haveI : Fact (¬isStat (grid0.coords t)) := ⟨hc1⟩
    haveI : Fact (isToken (grid0.coords t)) := ⟨hc2⟩
    haveI : Fact (isAhead (grid0.coords t)) := ⟨hc3⟩
    simp only [cc0__kernel_eq_skeleton]; unfold cc0__kernel_skel
    simp only [k0_part12_eq_skeleton, k0_part13_eq_skeleton]
    unfold owns Ring.free
    try unfold Ring.inflight
    iintro ⟨⟨%fq, %hfq, HQ⟩, ⟨%fw, %hfw, HWt⟩, ⟨%f10, %hf10, H10⟩, ⟨%f11, %hf11, H11⟩, ⟨%d12, %f12, -, HO⟩,
      ⟨Hf00, Hr00⟩, ⟨Hf10, Hr10⟩, ⟨Hc02, ⟨%g02, Hs02, Hw02⟩⟩, ⟨Hc12, ⟨%g12, Hs12, Hw12⟩⟩, HW, Hk⟩
    ihave Hsp02 := (src_split c tkA fh0 (Ring.sl 3 (t.val - 1 + 2)) (Ring.bk 8 (t.val - 1 + 2))).1 $$ Hw02
    icases Hsp02 with ⟨Hh02, Hr02⟩
    ihave Hsp12 := (src_split c vA fh1 (Ring.sl 3 (t.val - 1 + 2)) (Ring.bk 8 (t.val - 1 + 2))).1 $$ Hw12
    icases Hsp12 with ⟨Hh12, Hr12⟩
    obtain rfl := (Memref.isWhole_whole cc0_scratch0).eq_unread hfq
    obtain rfl := (Memref.isWhole_whole cc0_scratch1).eq_unread hfw
    obtain rfl := harg10.eq_unread hf10
    obtain rfl := harg11.eq_unread hf11
    sl_exec (disch := first | sl_exact hc1 | sl_exact hc2 | sl_exact hc3)
    sl_step
    iapply Hk
    isplitl [HQ]
    · iexists _; isplitr; · ipureintro; exact (Memref.isWhole_whole cc0_scratch0).read_unread _
      iexact HQ
    isplitl [HWt]
    · iexists _; isplitr; · ipureintro; exact (Memref.isWhole_whole cc0_scratch1).read_unread _
      iexact HWt
    isplitl [H10]
    · iexists _; isplitr; · ipureintro; exact harg10.read_unread _
      iexact H10
    isplitl [H11]
    · iexists _; isplitr; · ipureintro; exact harg11.read_unread _
      iexact H11
    isplitl [HO]; · iexists _; iexact HO
    isplitl [Hc02 Hr02]
    · iexists _; isplitl [Hc02]; · iexact Hc02
      iexact Hr02
    isplitl [Hc12 Hr12]
    · iexists _; isplitl [Hc12]; · iexact Hc12
      iexact Hr12
    isplitl [Hf00 Hf00_dst Hf00_src Hr00]
    · isplitl [Hf00]; · iexact Hf00
      iexists _; isplitl [Hf00_dst]; · iexact Hf00_dst
      iapply (src_split c tkA fh0 (Ring.sl 3 (t.val - 1)) (Ring.bk 8 (t.val - 1))).2; isplitl [Hf00_src]; · iexact Hf00_src
      iexact Hr00
    isplitl [Hf10 Hf10_dst Hf10_src Hr10]
    · isplitl [Hf10]; · iexact Hf10
      iexists _; isplitl [Hf10_dst]; · iexact Hf10_dst
      iapply (src_split c vA fh1 (Ring.sl 3 (t.val - 1)) (Ring.bk 8 (t.val - 1))).2; isplitl [Hf10_src]; · iexact Hf10_src
      iexact Hr10
    iexists _; iexact HW

set_option maxHeartbeats 4000000 in
/-- At a token point past the last block to start: the same, nothing started. -/
def tokenRunLast (c : Dev nD) (t : Fin cfg0.N)
    (arg1 : Memref sig .tc .smem S1x8 .i32) (harg1 : arg1.IsWhole) (arg2 : Memref sig .tc .vmem S128x256 .f32) (harg2 : arg2.IsWhole)
    (arg3 : Memref sig .tc .vmem S1024x256 .f32) (harg3 : arg3.IsWhole) (arg4 : Memref sig .tc .vmem S256x256 .f32) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S256x256 .f32) (harg7 : arg7.IsWhole) (arg10 : Memref sig .tc .vmem S256x256 .f32) (harg10 : arg10.IsWhole)
    (arg11 : Memref sig .tc .vmem S256x256 .f32) (harg11 : arg11.IsWhole) (arg12 : Memref sig .tc .vmem S1x16x256 .f32) (harg12 : arg12.IsWhole)
    (hc1 : ¬isStat (grid0.coords t)) (hc2 : isToken (grid0.coords t)) (hc3 : ¬isAhead (grid0.coords t))
    (xq : Vec F S8x128x256 .f32) (xw : Vec F S1024x128 .f32) (x10 x11 : Vec F S256x256 .f32)
    (fh0 : Bf (F := F) c tkA) (fh1 : Bf (F := F) c vA) (g0 : Bf (F := F) c (rslot tkM (Ring.sl 3 (t.val - 1)))) (g1 : Bf (F := F) c (rslot vM (Ring.sl 3 (t.val - 1)))) :
    { L : List (View.Piece (Elt F) S1x16x256 .f32) //
      ∀ (W : Waits sig Unit) (K : PUnit → sProp 𝕄),
        iprop(owns (c : Thread nD τ) qkM fullShare xq ∗ owns (c : Thread nD τ) wM fullShare xw
            ∗ owns (c : Thread nD τ) arg10 fullShare x10 ∗ owns (c : Thread nD τ) arg11 fullShare x11
            ∗ (∃ d, owns (c : Thread nD τ) arg12 fullShare d)
            ∗ flightW c tkA tkM 0 fh0 (Ring.sl 3 (t.val - 1)) (Ring.bk 8 (t.val - 1)) g0 ∗ flightW c vA vM 1 fh1 (Ring.sl 3 (t.val - 1)) (Ring.bk 8 (t.val - 1)) g1
            ∗ owes (c : Thread nD τ) 0 W
            ∗ (iprop(owns (c : Thread nD τ) qkM fullShare xq ∗ owns (c : Thread nD τ) wM fullShare xw
                ∗ owns (c : Thread nD τ) arg10 fullShare x10 ∗ owns (c : Thread nD τ) arg11 fullShare x11
                ∗ (∃ f, arg12.view.loc (c : Thread nD τ) ↦[arg12.view.set]{fullShare} arg12.view.writes (Elt F) f L)
                ∗ Ring.free (cellP c 0) (slotW c tkA tkM fh0) (Ring.sl 3 (t.val - 1)) ∗ Ring.free (cellP c 1) (slotW c vA vM fh1) (Ring.sl 3 (t.val - 1))
                ∗ (∃ W', owes (c : Thread nD τ) 0 W')) -∗ K ⟨⟩))
          ⊢ wp frame (wpE (defs₀ (F := F)) Variants.none c none) Set.univ
              (cc0__kernel (grid0.coords t) arg1 harg1 arg2 harg2 arg3 harg3 arg4 harg4 arg5 harg5 arg6 harg6 arg7 harg7 tkA (Memref.isWhole_whole _) vA (Memref.isWhole_whole _)
                arg10 harg10 arg11 harg11 arg12 harg12 qkM (Memref.isWhole_whole _) wM (Memref.isWhole_whole _) tkM (Memref.isWhole_whole _) vM (Memref.isWhole_whole _) cc0_scratch4) K } := by
  refine ⟨?_, fun W K => ?run⟩
  case run =>
    haveI : Fact (¬isStat (grid0.coords t)) := ⟨hc1⟩
    haveI : Fact (isToken (grid0.coords t)) := ⟨hc2⟩
    haveI : Fact (¬isAhead (grid0.coords t)) := ⟨hc3⟩
    simp only [cc0__kernel_eq_skeleton]; unfold cc0__kernel_skel
    simp only [k0_part12_eq_skeleton, k0_part13_eq_skeleton]
    unfold owns Ring.free
    try unfold Ring.inflight
    iintro ⟨⟨%fq, %hfq, HQ⟩, ⟨%fw, %hfw, HWt⟩, ⟨%f10, %hf10, H10⟩, ⟨%f11, %hf11, H11⟩, ⟨%d12, %f12, -, HO⟩,
      ⟨Hf00, Hr00⟩, ⟨Hf10, Hr10⟩, HW, Hk⟩
    obtain rfl := (Memref.isWhole_whole cc0_scratch0).eq_unread hfq
    obtain rfl := (Memref.isWhole_whole cc0_scratch1).eq_unread hfw
    obtain rfl := harg10.eq_unread hf10
    obtain rfl := harg11.eq_unread hf11
    sl_exec (disch := first | sl_exact hc1 | sl_exact hc2 | sl_exact hc3)
    sl_step
    iapply Hk
    isplitl [HQ]
    · iexists _; isplitr; · ipureintro; exact (Memref.isWhole_whole cc0_scratch0).read_unread _
      iexact HQ
    isplitl [HWt]
    · iexists _; isplitr; · ipureintro; exact (Memref.isWhole_whole cc0_scratch1).read_unread _
      iexact HWt
    isplitl [H10]
    · iexists _; isplitr; · ipureintro; exact harg10.read_unread _
      iexact H10
    isplitl [H11]
    · iexists _; isplitr; · ipureintro; exact harg11.read_unread _
      iexact H11
    isplitl [HO]; · iexists _; iexact HO
    isplitl [Hf00 Hf00_dst Hf00_src Hr00]
    · isplitl [Hf00]; · iexact Hf00
      iexists _; isplitl [Hf00_dst]; · iexact Hf00_dst
      iapply (src_split c tkA fh0 (Ring.sl 3 (t.val - 1)) (Ring.bk 8 (t.val - 1))).2; isplitl [Hf00_src]; · iexact Hf00_src
      iexact Hr00
    isplitl [Hf10 Hf10_dst Hf10_src Hr10]
    · isplitl [Hf10]; · iexact Hf10
      iexists _; isplitl [Hf10_dst]; · iexact Hf10_dst
      iapply (src_split c vA fh1 (Ring.sl 3 (t.val - 1)) (Ring.bk 8 (t.val - 1))).2; isplitl [Hf10_src]; · iexact Hf10_src
      iexact Hr10
    iexists _; iexact HW

end Cert.KernelIdeal.Run

end
-- ==== Proof.KernelIdeal.Values.lean ====
/- What the runs leave, as functions of the arrays. -/
module

public import proofs.«01_k».proof.Proof.KernelIdeal.Stat
public import proofs.«01_k».proof.Proof.KernelIdeal.Token
public import Idealize.ShloMosaic.Lib.VecWindow
public import Idealize.ShloMosaic.Lib.WholeRead

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

/-! ## What a token point reads -/

/-- The rows of a sequence lie within the stored queries -/
theorem inb_qk (b : Fin 8) : ∀ a, (![0, 16 * b.val, 0] : Fin 3 → Nat) a + S8x16x256.size a ≤ S8x128x256.size a := by
  have := b.isLt; intro a; fin_cases a <;> simp <;> omega
/-- and the stored weights. -/
theorem inb_w (b : Fin 8) : ∀ a, (![128 * b.val, 0] : Fin 2 → Nat) a + S128x128.size a ≤ S1024x128.size a := by
  have := b.isLt; intro a; fin_cases a <;> simp <;> omega

/-- Block `b`'s sixteen queries of every head, -/
def qkRows (X : Vec F S8x128x256 .f32) (b : Fin 8) : Vec F S8x16x256 .f32 :=
  fun x => X ((Rect.unit (s := S8x128x256) ![0, 16 * b.val, 0] S8x16x256.size (inb_qk b)).emb x)
/-- its weights over the statistic keys, -/
def wRows (X : Vec F S1024x128 .f32) (b : Fin 8) : Vec F S128x128 .f32 :=
  fun x => X ((Rect.unit (s := S1024x128) ![128 * b.val, 0] S128x128.size (inb_w b)).emb x)
/-- and the last sixteen tokens of its 128 rows of a streamed array. -/
def srcRows (X : Vec F S1024x64x256 .f32) (b : Fin 8) : Vec F S128x16x256 .f32 :=
  fun x => X ((Rect.unit (s := S1024x64x256) ![128 * b.val, 48, 0] S128x16x256.size (inb_src b)).emb x)

/-- What a token point stores, from what it reads. -/
def tokOut (q : Vec F S8x16x256 .f32) (w : Vec F S128x128 .f32) (tk v : Vec F S1x128x16x256 .f32) (wv wo : Vec F S256x256 .f32) :
    FVec F S1x16x256 .f32 :=
  k0_pay2 (k0_pay73 (k0_pay71 q) w (k0_pay72 tk) v) wv
    (k0_pay74 (k0_pay71 q) w (k0_pay72 tk) v wv) (k0_pay75 (k0_pay71 q) w (k0_pay72 tk) v wv) (k0_pay76 (k0_pay71 q) w (k0_pay72 tk) v wv)
    (k0_pay77 (k0_pay71 q) w (k0_pay72 tk) v wv) (k0_pay78 (k0_pay71 q) w (k0_pay72 tk) v wv) (k0_pay79 (k0_pay71 q) w (k0_pay72 tk) v wv)
    (k0_pay80 (k0_pay71 q) w (k0_pay72 tk) v) wo

/-- A block of a streamed array, as a slot of the ring buffer shows it. -/
def slotRows (X : Vec F S128x16x256 .f32) : Vec F S1x128x16x256 .f32 := shapeCast S1x128x16x256 X (Shape.Squeezes.numel_eq squeezes_S1x128x16x256_S128x16x256).symm

/-- The block the token point of block `b` writes out: of the projected queries, the weights, the two streamed arrays, the
    value projection and the output projection. -/
def outBlock (xq : Vec F S8x128x256 .f32) (xw : Vec F S1024x128 .f32) (tk v : Vec F S1024x64x256 .f32) (wv wo : Vec F S256x256 .f32) (b : Fin 8) :
    Vec F S1x16x256 .f32 :=
  tokOut (qkRows xq b) (wRows xw b) (slotRows (srcRows tk b)) (slotRows (srcRows v b)) wv wo

/-! ## The loads -/

section Loads
variable (c : Dev nD) (t : Fin cfg0.N) (hc2 : isToken (grid0.coords t))

/-- What a token point reads: the rows of the queries, -/
theorem load_qk (xq : Vec F S8x128x256 .f32) :
    View.readAt (Elt F) qkM.view (Rect.unit (s := S8x128x256) (k0_off9 (grid0.coords t)) S8x16x256.size (k0_off9_inb _ hc2)).toLoadRect
      ((Memref.isWhole_whole cc0_scratch0).unread xq) = qkRows xq (Ring.bk 8 (t.val - 1)) := by
  have hN : t.val < 9 := lt_of_lt_of_eq t.isLt N_0
  rw [View.readAt_unit_congr_cast qkM.view ((off_qk_here t hc2).trans (by rw [show t.val - 1 = (Ring.bk 8 (t.val - 1)).val from (Nat.mod_eq_of_lt (by omega)).symm]))]
  funext x; exact (Memref.isWhole_whole cc0_scratch0).readAt_unread _ _ _

/-- of the weights, -/
theorem load_w (xw : Vec F S1024x128 .f32) :
    View.readAt (Elt F) wM.view (Rect.unit (s := S1024x128) (k0_off10 (grid0.coords t)) S128x128.size (k0_off10_inb _ hc2)).toLoadRect
      ((Memref.isWhole_whole cc0_scratch1).unread xw) = wRows xw (Ring.bk 8 (t.val - 1)) := by
  have hN : t.val < 9 := lt_of_lt_of_eq t.isLt N_0
  rw [View.readAt_unit_congr_cast wM.view ((off_w_here t hc2).trans (by rw [show t.val - 1 = (Ring.bk 8 (t.val - 1)).val from (Nat.mod_eq_of_lt (by omega)).symm]))]
  funext x; exact (Memref.isWhole_whole cc0_scratch1).readAt_unread _ _ _

/-- A load of the slot a block landed in reads the block. -/
theorem load_slot (A : Memref sig .tc .hbm S1024x64x256 .f32) (D : Memref sig .tc .vmem S3x128x16x256 .f32) (fh : Bf (F := F) c A) (s : Fin 3) (b : Fin 8) (g : Bf (F := F) c (rslot D s))
    (inb : ∀ a, (![s.val, 0, 0, 0] : Fin 4 → Nat) a + S1x128x16x256.size a ≤ S3x128x16x256.size a) :
    View.readAt (Elt F) D.view (Rect.unit (s := S3x128x16x256) ![s.val, 0, 0, 0] S1x128x16x256.size inb).toLoadRect
      ((rslot D s).view.writes (Elt F) g [⟨Rect.whole S128x16x256, ReadAs.same.apply (View.read (Elt F) (srcB A b).view fh)⟩])
      = slotRows (View.read (Elt F) (srcB A b).view fh) := by
  have h := View.read_writes_whole (rslot D s).view g (View.read (Elt F) (srcB A b).view fh)
  funext x
  refine Eq.trans ?_ (congrFun h (Shape.reshapeEquiv (Shape.Squeezes.numel_eq squeezes_S1x128x16x256_S128x16x256).symm x))
  have e : (Rect.unit (s := S3x128x16x256) ![s.val, 0, 0, 0] S1x128x16x256.size inb).emb x
      = (Rect.unit (s := S3x128x16x256) ![s.val, 0, 0, 0] S1x128x16x256.size inb).emb
          (Shape.reshapeEquiv (Shape.Squeezes.numel_eq squeezes_S1x128x16x256_S128x16x256)
            (Shape.reshapeEquiv (Shape.Squeezes.numel_eq squeezes_S1x128x16x256_S128x16x256).symm x)) := by
    rw [Shape.reshapeEquiv_reshapeEquiv, Shape.reshapeEquiv_self]
  exact congrArg (D.view.read (Elt F) _) e

/-- of the tokens -/
theorem load_tk (fh : Bf (F := F) c tkA) (g : Bf (F := F) c (rslot tkM (Ring.sl 3 (t.val - 1)))) :
    View.readAt (Elt F) tkM.view (Rect.unit (s := S3x128x16x256) (k0_off11 (grid0.coords t)) S1x128x16x256.size (k0_off11_inb _ hc2)).toLoadRect
      ((rslot tkM (Ring.sl 3 (t.val - 1))).view.writes (Elt F) g [⟨Rect.whole S128x16x256, ReadAs.same.apply (View.read (Elt F) (srcB tkA (Ring.bk 8 (t.val - 1))).view fh)⟩])
      = slotRows (srcRows fh (Ring.bk 8 (t.val - 1))) := by
  exact (View.readAt_unit_congr_cast tkM.view (off_load_here t hc2) _ _ _).trans (load_slot c tkA tkM fh _ _ g _)
/-- and of the values. -/
theorem load_v (fh : Bf (F := F) c vA) (g : Bf (F := F) c (rslot vM (Ring.sl 3 (t.val - 1)))) :
    View.readAt (Elt F) vM.view (Rect.unit (s := S3x128x16x256) (k0_off11 (grid0.coords t)) S1x128x16x256.size (k0_off11_inb _ hc2)).toLoadRect
      ((rslot vM (Ring.sl 3 (t.val - 1))).view.writes (Elt F) g [⟨Rect.whole S128x16x256, ReadAs.same.apply (View.read (Elt F) (srcB vA (Ring.bk 8 (t.val - 1))).view fh)⟩])
      = slotRows (srcRows fh (Ring.bk 8 (t.val - 1))) := by
  exact (View.readAt_unit_congr_cast vM.view (off_load_here t hc2) _ _ _).trans (load_slot c vA vM fh _ _ g _)

/-- A load of a matrix held whole. -/
theorem load_mat {sp : Space} (M : Memref sig .tc sp S256x256 .f32) (hM : M.IsWhole) (x : Vec F S256x256 .f32) :
    View.readAt (Elt F) M.view (Rect.unit (s := S256x256) ![0, 0] S256x256.size inb_S256x256_S256x256_0_0).toLoadRect (hM.unread x) = x := by
  funext y; rw [hM.readAt_unread]; congr 1
  funext a; apply Fin.ext; fin_cases a <;> simp [LoadRect.idx, Rect.toLoadRect]

end Loads

/-! ## What the token run leaves -/

set_option maxHeartbeats 2000000 in
/-- What a token point writes, with a block ahead -/
theorem tokenRunAhead_pieces (c : Dev nD) (t : Fin cfg0.N) (arg1 harg1 arg2 harg2 arg3 harg3 arg4 harg4 arg5 harg5 arg6 harg6 arg7 harg7 arg10 harg10 arg11 harg11 arg12 harg12)
    (hc1 : ¬isStat (grid0.coords t)) (hc2 : isToken (grid0.coords t)) (hc3 : isAhead (grid0.coords t)) (xq xw x10 x11)
    (fh0 : Bf (F := F) c tkA) (fh1 : Bf (F := F) c vA) (g0 g1) :
    (tokenRunAhead c t arg1 harg1 arg2 harg2 arg3 harg3 arg4 harg4 arg5 harg5 arg6 harg6 arg7 harg7 arg10 harg10 arg11 harg11 arg12 harg12 hc1 hc2 hc3 xq xw x10 x11 fh0 fh1 g0 g1).1
      = [⟨Rect.unit (s := S1x16x256) ![0, 0, 0] S1x16x256.size inb_S1x16x256_S1x16x256_0_0_0, outBlock xq xw fh0 fh1 x10 x11 (Ring.bk 8 (t.val - 1))⟩] := by
  have eq := load_qk t hc2 xq
  have ew := load_w t hc2 xw
  have et : tokenRunAhead.sl.v33 c t hc2 fh0 = slotRows (srcRows fh0 (Ring.bk 8 (t.val - 1))) := load_tk c t hc2 fh0 _
  have ev : tokenRunAhead.sl.v55 c t hc2 fh1 = slotRows (srcRows fh1 (Ring.bk 8 (t.val - 1))) := load_v c t hc2 fh1 _
  have e10 := load_mat arg10 harg10 x10
  have e11 := load_mat arg11 harg11 x11
  unfold outBlock tokOut
  rw [← eq, ← ew, ← et, ← ev]
  conv_rhs => rw [← e10, ← e11]
  unfold tokenRunAhead
  dsimp only [tokenRunAhead.sl.r, tokenRunAhead.sl.r_1, tokenRunAhead.sl.r_2, tokenRunAhead.sl.r_3, tokenRunAhead.sl.r_4, tokenRunAhead.sl.r_5, tokenRunAhead.sl.r_6, tokenRunAhead.sl.r_7, tokenRunAhead.sl.r_8, tokenRunAhead.sl.r_9, tokenRunAhead.sl.r_10, tokenRunAhead.sl.r_11]
set_option maxHeartbeats 2000000 in
/-- and without. -/
theorem tokenRunLast_pieces (c : Dev nD) (t : Fin cfg0.N) (arg1 harg1 arg2 harg2 arg3 harg3 arg4 harg4 arg5 harg5 arg6 harg6 arg7 harg7 arg10 harg10 arg11 harg11 arg12 harg12)
    (hc1 : ¬isStat (grid0.coords t)) (hc2 : isToken (grid0.coords t)) (hc3 : ¬isAhead (grid0.coords t)) (xq xw x10 x11)
    (fh0 : Bf (F := F) c tkA) (fh1 : Bf (F := F) c vA) (g0 g1) :
    (tokenRunLast c t arg1 harg1 arg2 harg2 arg3 harg3 arg4 harg4 arg5 harg5 arg6 harg6 arg7 harg7 arg10 harg10 arg11 harg11 arg12 harg12 hc1 hc2 hc3 xq xw x10 x11 fh0 fh1 g0 g1).1
      = [⟨Rect.unit (s := S1x16x256) ![0, 0, 0] S1x16x256.size inb_S1x16x256_S1x16x256_0_0_0, outBlock xq xw fh0 fh1 x10 x11 (Ring.bk 8 (t.val - 1))⟩] := by
  have eq := load_qk t hc2 xq
  have ew := load_w t hc2 xw
  have et : tokenRunLast.sl.v33 c t hc2 fh0 = slotRows (srcRows fh0 (Ring.bk 8 (t.val - 1))) := load_tk c t hc2 fh0 _
  have ev : tokenRunLast.sl.v55 c t hc2 fh1 = slotRows (srcRows fh1 (Ring.bk 8 (t.val - 1))) := load_v c t hc2 fh1 _
  have e10 := load_mat arg10 harg10 x10
  have e11 := load_mat arg11 harg11 x11
  unfold outBlock tokOut
  rw [← eq, ← ew, ← et, ← ev]
  conv_rhs => rw [← e10, ← e11]
  unfold tokenRunLast
  dsimp only [tokenRunLast.sl.r, tokenRunLast.sl.r_1, tokenRunLast.sl.r_2, tokenRunLast.sl.r_3, tokenRunLast.sl.r_4, tokenRunLast.sl.r_5, tokenRunLast.sl.r_6, tokenRunLast.sl.r_7, tokenRunLast.sl.r_8, tokenRunLast.sl.r_9, tokenRunLast.sl.r_10, tokenRunLast.sl.r_11]

end Cert.KernelIdeal.Run

end
-- ==== Proof.KernelIdeal.Body.lean ====
/- The body at every grid point: what it is given and what it leaves. -/
module

public import proofs.«01_k».proof.Proof.KernelIdeal.Values
public import proofs.«01_k».proof.Proof.Gen.KernelIdeal.Frame
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The scratch and the result, point by point -/

/-- The first grid point. -/
def first : Fin cfg0.N := ⟨0, Nat.lt_of_lt_of_eq (by decide : 0 < 9) (show 9 = cfg0.N from N_0.symm)⟩
/-- The first point is the statistic point -/
theorem first_stat : isStat (grid0.coords first) := (isStat_iff first).mpr rfl
/-- and no token point. -/
theorem first_not_token : ¬isToken (grid0.coords first) := fun h => absurd ((isToken_iff first).mp h) (by decide)

/-- The statistic stage's stores, from the blocks of the windows at point `t`. -/
def statPieces (c : Dev nD) (t : Fin cfg0.N) (hc1 : isStat (grid0.coords t)) (hc2 : ¬isToken (grid0.coords t)) : List (View.Piece (Elt F) S8x128x256 .f32) × List (View.Piece (Elt F) S1024x128 .f32) :=
  (statRun c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) hc1 hc2 (iblk m c 0 t) (iblk m c 1 t) (iblk m c 2 t) (iblk m c 3 t) (iblk m c 4 t) (iblk m c 5 t) (iblk m c 6 t) (V m c main_arg2) (V m c main_arg3)).1

/-- What the statistic stage leaves in the two scratches: the projected queries and the attention weights. -/
def qkV (c : Dev nD) : Vec F S8x128x256 .f32 := View.canon (statPieces m c first first_stat first_not_token).1
/-- The weights that it leaves. -/
def wV (c : Dev nD) : Vec F S1024x128 .f32 := View.canon (statPieces m c first first_stat first_not_token).2

/-- The result's block at a token point. -/
def outV (c : Dev nD) (t : Fin cfg0.N) : Vec F S1x16x256 .f32 :=
  outBlock (qkV m c) (wV m c) (V m c main_arg2) (V m c main_arg3) (iblk m c 7 t) (iblk m c 8 t) (Ring.bk 8 (t.val - 1))

/-- The stores cover the scratch they go to. -/
theorem qk_read (c : Dev nD) (t : Fin cfg0.N) (h : t.val = 0) (f : Bf (F := F) c qkM) (hc1 hc2) :
    qkM.view.read (Elt F) (qkM.view.writes (Elt F) f (statPieces m c t hc1 hc2).1) = qkV m c := by
  obtain rfl : t = first := Fin.ext h
  exact View.read_writes_eq_canon _ _ _ (View.cover_of_tiled _ S1x128x256.size rfl)
/-- Its weights, read back. -/
theorem w_read (c : Dev nD) (t : Fin cfg0.N) (h : t.val = 0) (f : Bf (F := F) c wM) (hc1 hc2) :
    wM.view.read (Elt F) (wM.view.writes (Elt F) f (statPieces m c t hc1 hc2).2) = wV m c := by
  obtain rfl : t = first := Fin.ext h
  exact View.read_writes_eq_canon _ _ _ (View.cover_of_tiled _ S1024x128.size rfl)

/-- Words that read as `d` are the array `d`, owned. -/
theorem owns_of_read (c : Dev nD) {sp : Space} {sh : Shape} {e : EltTy} (M : Memref sig .tc sp sh e) (f : Bf (F := F) c M) (d : sh.Idx → Elt F e)
    (h : M.view.read (Elt F) f = d) : (M.view.loc (c : Thread nD τ) ↦[M.view.set]{fullShare} f) ⊢ (owns (c : Thread nD τ) M fullShare d : sProp 𝕄) := by
  unfold owns
  iintro H
  iexists f; isplitr
  · ipureintro; exact h
  iexact H

/-! ## The pipeline's proof data -/

/-- Before point `k`: the scratch of the statistic stage at anything before the first point and as that point leaves it
    later, the generator register, and the two rings. -/
def PhiR (c : Dev nD) (k : ℕ) : sProp 𝕄 :=
  iprop((if k = 0 then iprop((∃ d, owns (c : Thread nD τ) qkM fullShare d) ∗ (∃ d, owns (c : Thread nD τ) wM fullShare d))
      else iprop(owns (c : Thread nD τ) qkM fullShare (qkV m c) ∗ owns (c : Thread nD τ) wM fullShare (wV m c)))
    ∗ (∃ r, prngReg c r) ∗ ringAt c tkA tkM 0 (V m c main_arg2) k ∗ ringAt c vA vM 1 (V m c main_arg3) k)

/-- The proof data: the arrays as the region finds them; after the body at point `t` each input's buffer at its block and
    the result's at the block the token stage writes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outV m c t
  Φ t := PhiR m c t.val
  q _ := fullShare
  owed _ := 0

/-- The parts of the launch's data, as they were given. -/
theorem A_eq (c : Dev nD) (w : Fin cfg0.W) : (dats m 0 c).A w = V m c (Pipeline.arrRef spec0 w) := by dsimp only [dats]
theorem PhiR_castSucc (c : Dev nD) (t : Fin cfg0.N) : (dats m 0 c).Φ t.castSucc = PhiR m c t.val := by dsimp only [dats]; simp only [Fin.coe_castSucc]
theorem PhiR_succ (c : Dev nD) (t : Fin cfg0.N) : (dats m 0 c).Φ t.succ = PhiR m c (t.val + 1) := by dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outV m c t := by dsimp only [dats]
/-- Before a point every window but the last holds its block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-- The result's window is left as found at the first point, -/
theorem leaves_out_first (c : Dev nD) (t : Fin cfg0.N) (h : t.val = 0) :
    (dats m 0 c).leavesExact 9 t = iprop(∃ d, owns (c : Thread nD τ) (st0_9 t) fullShare ((dats m 0 c).before 9 t d)) := by
  have hi : cfg0.idle 9 (cfg0.grid.coords t) = true := by
    have : ¬isToken (grid0.coords t) := fun hT => by have := (isToken_iff t).mp hT; omega
    show (!(k0_cond2 (grid0.coords t) == 1#1)) = true
    simpa [isToken] using this
  have hf : (cfg0.win 9).flush t = false := by
    obtain rfl : t = first := Fin.ext h
    decide +kernel
  exact (dats m 0 c).leavesExact_idle 9 t hi hf
/-- and written at the later ones. -/
theorem leaves_out_later (c : Dev nD) (t : Fin cfg0.N) (h : isToken (grid0.coords t)) :
    (dats m 0 c).leavesExact 9 t = owns (c : Thread nD τ) (st0_9 t) fullShare ((dats m 0 c).after 9 t) := by
  have hi : cfg0.idle 9 (cfg0.grid.coords t) = false := by
    show (!(k0_cond2 (grid0.coords t) == 1#1)) = false
    simpa [isToken] using h
  unfold Dat.leavesExact; rw [hi]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t)

set_option maxHeartbeats 4000000 in
/-- The body at any point: the statistic stage at the first, the token stage at the later ones, which start a block while
    one is left to start. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [after_0, after_1, after_2, after_3, after_4, after_5, after_6, after_7, after_8, PhiR_castSucc m c t, PhiR_succ m c t]
  unfold Dat.owesAt Pipeline.owesWithin
  rw [show (dats m 0 c).owed t.castSucc = 0 from rfl, show (dats m 0 c).owed t.succ = 0 from rfl]
  have hN : t.val < 9 := lt_of_lt_of_eq t.isLt (show cfg0.N = 9 from N_0)
  by_cases hc1' : t.val = 0
  · have hK : t.val = 0 := hc1'
    have hT0 : ¬isToken (grid0.coords t) := fun h => by have := (isToken_iff t).mp h; omega
    have hS : isStat (grid0.coords t) := (isStat_iff t).mpr hK
    rw [leaves_out_first m c t hK]
    unfold PhiR
    rw [if_pos hK, if_neg (show ¬t.val + 1 = 0 by omega)]
    unfold ringAt
    rw [if_pos hK, if_pos hK, if_neg (show ¬t.val + 1 = 0 by omega), if_neg (show ¬t.val + 1 = 0 by omega), show t.val + 1 - 1 = t.val by omega]
    rw [Ring.At₀_eq3' _ _ _ t.val hK (by decide : 3 ≤ 8), Ring.At₀_eq3' _ _ _ t.val hK (by decide : 3 ≤ 8)]
    rw [Ring.At3_here _ _ _ _ t.val (by omega : t.val + 2 < 8), Ring.At3_here _ _ _ _ t.val (by omega : t.val + 2 < 8)]
    iintro ⟨⟨⟨HQ, HWt⟩, Hg, ⟨-, Ha0, Ha1, Ha2⟩, ⟨-, Hb0, Hb1, Hb2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((statRun c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) hS hT0 (iblk m c 0 t) (iblk m c 1 t) (iblk m c 2 t) (iblk m c 3 t) (iblk m c 4 t) (iblk m c 5 t) (iblk m c 6 t) (V m c main_arg2) (V m c main_arg3)).2 _ W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [HQ]; · iexact HQ
    isplitl [HWt]; · iexact HWt
    isplitl [Ha0]; · iexact Ha0
    isplitl [Ha1]; · iexact Ha1
    isplitl [Hb0]; · iexact Hb0
    isplitl [Hb1]; · iexact Hb1
    isplitl [HW]; · iexact HW
    iintro ⟨H0, H1, H2, H3, H4, H5, H6, H9, ⟨%fq, HQ⟩, ⟨%fw, HWt⟩, Ha0, Ha1, Hb0, Hb1, ⟨%W', HW'⟩⟩
    isplitl [HQ HWt Hg Ha0 Ha1 Ha2 Hb0 Hb1 Hb2]
    · isplitl [HQ HWt]
      · isplitl [HQ]
        · iapply (owns_of_read c qkM _ _ (qk_read m c t hK fq hS hT0)); iexact HQ
        iapply (owns_of_read c wM _ _ (w_read m c t hK fw hS hT0)); iexact HWt
      isplitl [Hg]; · iexact Hg
      isplitl [Ha0 Ha1 Ha2]
      · iapply (Ring.with_homes (Idealize.SL.BI.Entails.refl _))
        isplitl [Ha0]; · iexact Ha0
        isplitl [Ha1]; · iexact Ha1
        iexact Ha2
      iapply (Ring.with_homes (Idealize.SL.BI.Entails.refl _))
      isplitl [Hb0]; · iexact Hb0
      isplitl [Hb1]; · iexact Hb1
      iexact Hb2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hK : ¬t.val = 0 := hc1'
    have hT : isToken (grid0.coords t) := (isToken_iff t).mpr (by omega)
    have hS : ¬isStat (grid0.coords t) := fun h => hK ((isStat_iff t).mp h)
    rw [leaves_out_later m c t hT, after_9]
    by_cases hA : isAhead (grid0.coords t)
    · have hlt7 : t.val < 7 := (isAhead_iff t).mp hA
      unfold PhiR ringAt
      rw [if_neg hK, if_neg hK, if_neg hK, if_neg (show ¬t.val + 1 = 0 by omega), if_neg (show ¬t.val + 1 = 0 by omega), if_neg (show ¬t.val + 1 = 0 by omega), show t.val + 1 - 1 = t.val - 1 + 1 by omega]
      have hB : t.val - 1 + 2 < 8 := by omega
      rw [Ring.At3_here _ _ _ _ (t.val - 1) hB, Ring.At3_here _ _ _ _ (t.val - 1) hB, Ring.At3_next _ _ _ _ (t.val - 1) hB, Ring.At3_next _ _ _ _ (t.val - 1) hB,
        Ring.slotAt3_next0 _ _ _ (t.val - 1) (by omega), Ring.slotAt3_next0 _ _ _ (t.val - 1) (by omega), Ring.slotAt3_next1 _ _ _ (t.val - 1) hB, Ring.slotAt3_next1 _ _ _ (t.val - 1) hB]
      iintro ⟨⟨⟨HQ, HWt⟩, Hg, ⟨-, ⟨%g0, Ha0⟩, Ha1, Ha2⟩, ⟨-, ⟨%g1, Hb0⟩, Hb1, Hb2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((tokenRunAhead c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) hS hT hA (qkV m c) (wV m c) (iblk m c 7 t) (iblk m c 8 t) (V m c main_arg2) (V m c main_arg3) g0 g1).2 W _)
      isplitl [HQ]; · iexact HQ
      isplitl [HWt]; · iexact HWt
      isplitl [H7]; · iexact H7
      isplitl [H8]; · iexact H8
      isplitl [H9]; · iexists _; iexact H9
      isplitl [Ha0]; · iexact Ha0
      isplitl [Hb0]; · iexact Hb0
      isplitl [Ha2]; · iexact Ha2
      isplitl [Hb2]; · iexact Hb2
      isplitl [HW]; · iexact HW
      rw [tokenRunAhead_pieces]
      iintro ⟨HQ, HWt, H7, H8, ⟨%f9, H9⟩, Hn0, Hn1, Ha0, Hb0, ⟨%W', HW'⟩⟩
      isplitl [HQ HWt Hg Ha1 Hn0 Ha0 Hb1 Hn1 Hb0]
      · isplitl [HQ HWt]
        · isplitl [HQ]; · iexact HQ
          iexact HWt
        isplitl [Hg]; · iexact Hg
        isplitl [Ha1 Hn0 Ha0]
        · iapply (Ring.with_homes (Idealize.SL.BI.Entails.refl _))
          isplitl [Ha1]; · iexact Ha1
          isplitl [Hn0]; · iexact Hn0
          iexact Ha0
        iapply (Ring.with_homes (Idealize.SL.BI.Entails.refl _))
        isplitl [Hb1]; · iexact Hb1
        isplitl [Hn1]; · iexact Hn1
        iexact Hb0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iapply (owns_of_read c (st0_9 t) _ _ (View.read_writes_full _ f9 _ _ [])); iexact H9
    · have hge7 : ¬t.val < 7 := fun h => hA ((isAhead_iff t).mpr h)
      unfold PhiR ringAt
      rw [if_neg hK, if_neg hK, if_neg hK, if_neg (show ¬t.val + 1 = 0 by omega), if_neg (show ¬t.val + 1 = 0 by omega), if_neg (show ¬t.val + 1 = 0 by omega), show t.val + 1 - 1 = t.val - 1 + 1 by omega]
      have hB : 8 ≤ t.val - 1 + 2 := by omega
      have hlt : t.val - 1 < 8 := by omega
      rw [Ring.At3_here_tail _ _ _ _ (t.val - 1) hlt, Ring.At3_here_tail _ _ _ _ (t.val - 1) hlt, Ring.At3_next_tail _ _ _ _ (t.val - 1) hB hlt, Ring.At3_next_tail _ _ _ _ (t.val - 1) hB hlt,
        Ring.slotAt3_tail_role _ _ _ (t.val - 1), Ring.slotAt3_tail_role _ _ _ (t.val - 1)]
      iintro ⟨⟨⟨HQ, HWt⟩, Hg, ⟨-, ⟨%g0, Ha0⟩, Ha1, Ha2⟩, ⟨-, ⟨%g1, Hb0⟩, Hb1, Hb2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((tokenRunLast c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) hS hT hA (qkV m c) (wV m c) (iblk m c 7 t) (iblk m c 8 t) (V m c main_arg2) (V m c main_arg3) g0 g1).2 W _)
      isplitl [HQ]; · iexact HQ
      isplitl [HWt]; · iexact HWt
      isplitl [H7]; · iexact H7
      isplitl [H8]; · iexact H8
      isplitl [H9]; · iexists _; iexact H9
      isplitl [Ha0]; · iexact Ha0
      isplitl [Hb0]; · iexact Hb0
      isplitl [HW]; · iexact HW
      rw [tokenRunLast_pieces]
      iintro ⟨HQ, HWt, H7, H8, ⟨%f9, H9⟩, Ha0, Hb0, ⟨%W', HW'⟩⟩
      isplitl [HQ HWt Hg Ha1 Ha2 Ha0 Hb1 Hb2 Hb0]
      · isplitl [HQ HWt]
        · isplitl [HQ]; · iexact HQ
          iexact HWt
        isplitl [Hg]; · iexact Hg
        isplitl [Ha1 Ha2 Ha0]
        · iapply (Ring.with_homes (Idealize.SL.BI.Entails.refl _))
          isplitl [Ha1]; · iexact Ha1
          isplitl [Ha2]; · iexact Ha2
          iexact Ha0
        iapply (Ring.with_homes (Idealize.SL.BI.Entails.refl _))
        isplitl [Hb1]; · iexact Hb1
        isplitl [Hb2]; · iexact Hb2
        iexact Hb0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iapply (owns_of_read c (st0_9 t) _ _ (View.read_writes_full _ f9 _ _ [])); iexact H9

/-- The body's entry in the table of definitions. -/
theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Run

end
-- ==== Proof.KernelIdeal.Frame.lean ====
/- The launch: every run ends, with the result's array at what the token points wrote and the arguments as they were. -/
module

public import proofs.«01_k».proof.Proof.KernelIdeal.Body
public import proofs.«01_k».proof.Proof.Gen.KernelIdeal.Frame
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The kernel's own semaphore cells: three for each ring. -/
def osem0 : Fin 6 → SemLoc sig := fun j => (![SemLoc.dma 11, SemLoc.dma 12, SemLoc.dma 13, SemLoc.dma 14, SemLoc.dma 15, SemLoc.dma 16] : Fin 6 → SemLoc sig) j
/-- The kernel's own semaphores are none of the pipeline's, -/
theorem ownSemFacts0 : Pipeline.OwnSemFacts spec0 osem0 := by decide
/-- and these are they. -/
theorem ownSems00_eq (c : Dev nD) : (Pipeline.ownSems0 (Ix := Unit) (Name := ℕ) (U := Pipeline.UD sig nD τ) (Lvl := ℕ) (Val := Elt F) osem0 c : sProp 𝕄)
    = iprop(cellP (F := F) c 0 0 ∗ cellP c 0 1 ∗ cellP c 0 2 ∗ cellP c 1 0 ∗ cellP c 1 1 ∗ cellP c 1 2) := by
  rw [Pipeline.ownSems0_eq_of_list c osem0 [0, 1, 2, 3, 4, 5] (by decide) (by decide)]; rfl

/-- The arrays the kernel copies from itself: the tokens' keys and values. -/
def H0 : Finset (Ref sig .tc) := {main_arg2, main_arg3}
/-- The two arrays that stay outside are none of the windows, -/
theorem H0_sub : H0 ⊆ Pipeline.restRefs sig spec0 := by decide
/-- and these are they. -/
theorem hbmPts0_eq (c : Dev nD) : (bigSep H0 (fun b => ((c : Thread nD τ).loc b) ↦{fullShare} V m c b) : sProp 𝕄)
    = iprop(pt c tkA (V m c main_arg2) ∗ pt c vA (V m c main_arg3)) := by
  rw [BI.bigSep_eq_bigSepL_of_eq [main_arg2, main_arg3] (by decide) (by decide)]; rfl

/-- What the region starts from and ends at. -/
theorem PhiD0_eq (c : Dev nD) : (Pipeline.ΦD osem0 spec0 H0 (V m) c : sProp 𝕄)
    = iprop(((∃ d, owns (c : Thread nD τ) qkM fullShare d) ∗ (∃ d, owns (c : Thread nD τ) wM fullShare d) ∗ (∃ d, owns (c : Thread nD τ) tkM fullShare d) ∗ (∃ d, owns (c : Thread nD τ) vM fullShare d))
        ∗ (∃ r, prngReg c r)
        ∗ (cellP (F := F) c 0 0 ∗ cellP c 0 1 ∗ cellP c 0 2 ∗ cellP c 1 0 ∗ cellP c 1 1 ∗ cellP c 1 2)
        ∗ pt c tkA (V m c main_arg2) ∗ pt c vA (V m c main_arg3)) := by
  rw [Pipeline.ΦD_eq, scopedRest0_eq, ownSems00_eq, hbmPts0_eq]
  simp only [qkM, wM, tkM, vM, owns_whole]
  try rfl

/-- What the launch gives is what the first point needs. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [if_pos rfl]
  iintro ⟨⟨HQ, HW, Htk, Hv⟩, Hg, ⟨Ha0, Ha1, Ha2, Hb0, Hb1, Hb2⟩, ⟨Hp, Hr⟩⟩
  isplitl [HQ HW]
  · isplitl [HQ]; · iexact HQ
    iexact HW
  isplitl [Hg]; · iexact Hg
  isplitl [Htk Ha0 Ha1 Ha2 Hp]
  · iapply (ring_in (F := F) c tkA tkM 0 (V m c main_arg2))
    isplitl [Htk]; · iapply (slots_tk (F := F) c).1; iexact Htk
    isplitl [Ha0 Ha1 Ha2]
    · isplitl [Ha0]; · iexact Ha0
      isplitl [Ha1]; · iexact Ha1
      iexact Ha2
    iexact Hp
  iapply (ring_in (F := F) c vA vM 1 (V m c main_arg3))
  isplitl [Hv]; · iapply (slots_v (F := F) c).1; iexact Hv
  isplitl [Hb0 Hb1 Hb2]
  · isplitl [Hb0]; · iexact Hb0
    isplitl [Hb1]; · iexact Hb1
    iexact Hb2
  iexact Hr
/-- What the last point leaves is what the launch takes back. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 9 by rw [N_0], if_neg (by decide)]
  iintro ⟨⟨HQ, HW⟩, Hg, HR0, HR1⟩
  ihave HX := (ring_out (F := F) c tkA tkM 0 (V m c main_arg2)) $$ HR0
  icases HX with ⟨Htk, ⟨Ha0, Ha1, Ha2⟩, Hp⟩
  ihave HY := (ring_out (F := F) c vA vM 1 (V m c main_arg3)) $$ HR1
  icases HY with ⟨Hv, ⟨Hb0, Hb1, Hb2⟩, Hr⟩
  isplitl [HQ HW Htk Hv]
  · isplitl [HQ]; · iexists _; iexact HQ
    isplitl [HW]; · iexists _; iexact HW
    isplitl [Htk]; · iapply (slots_tk (F := F) c).2; iexact Htk
    iapply (slots_v (F := F) c).2; iexact Hv
  isplitl [Hg]; · iexact Hg
  isplitl [Ha0 Ha1 Ha2 Hb0 Hb1 Hb2]
  · isplitl [Ha0]; · iexact Ha0
    isplitl [Ha1]; · iexact Ha1
    isplitl [Ha2]; · iexact Ha2
    isplitl [Hb0]; · iexact Hb0
    isplitl [Hb1]; · iexact Hb1
    iexact Hb2
  isplitl [Hp]; · iexact Hp
  iexact Hr

/-! ## The run and the frame -/

/-- `main` up to the kernel: the reshapes of the host. -/
theorem main_line : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every run ends with the pipeline's arrays at the proof data's, every other array as the kernel found it, and every
    semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_line m) (hA := A_eq m) (hin := hin m) (hout := hout m)

/-- Every run leaves the result's array as its write-backs made it and the arguments unchanged. -/
theorem run_result : θ_run defs (onTc (τ := τ) (main (F := F))) ⟨m, fun _ => 0, ρ⟩ (fun r => ∀ c : Dev nD,
      r.2.mem ((c.tc : Thread nD τ).loc main_v3) = (dats m 0 c).arrAt 9 cfg0.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ (h' : _ ∧ _) => have h := h'.1; fun c => ⟨(h c).1 9, ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c)))⟩) (run_main m ρ)

/-- Every run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and ((θ_run defs _ _).mono (fun _ h c => (h c).2) (run_result m ρ)) ((θ_run defs _ _).mono (fun _ h => h.2) (run_main m ρ))

end Cert.KernelIdeal.Run

end
-- ==== Proof.Math.Constants.lean ====
/- What the words of the constants are among the extended reals. -/
module

public import Idealize.ShloMosaic.Lib.Pointwise

@[expose] public section

noncomputable section

namespace Cert.Math

open Idealize.ShloMosaic

/-- The words of the constants in use, read as extended reals: −∞, -/
theorem ofBits_bot : Ideal.ofBits .f32 0xFF800000#32 = ⊥ := by simp [Ideal.ofBits, Ideal.ieee, -EReal.coe_mul]
/-- +∞, -/
theorem ofBits_top : Ideal.ofBits .f32 0x7F800000#32 = ⊤ := by simp [Ideal.ofBits, Ideal.ieee, -EReal.coe_mul]
/-- a thousand million, -/
theorem ofBits_big : Ideal.ofBits .f32 0x4E6E6B28#32 = ((1000000000 : ℝ) : EReal) := by simp [Ideal.ofBits, Ideal.ieee, -EReal.coe_mul]; norm_num
/-- and 32, the depth of a head. -/
theorem ofBits_depth : Ideal.ofBits .f32 0x42000000#32 = ((32 : ℝ) : EReal) := by simp [Ideal.ofBits, Ideal.ieee, -EReal.coe_mul]; norm_num

/-- A running maximum from −∞ is the greatest entry, -/
theorem fold_max {n : ℕ} (f : Fin n → EReal) : Finset.fold max (Ideal.ofBits .f32 0xFF800000#32) f Finset.univ = Finset.univ.sup f := by
  rw [ofBits_bot]; rfl
/-- and a running minimum from +∞ the least. -/
theorem fold_min {n : ℕ} (f : Fin n → EReal) : Finset.fold min (Ideal.ofBits .f32 0x7F800000#32) f Finset.univ = Finset.univ.inf f := by
  rw [ofBits_top]; rfl
/-- The greater of −∞ and a number is the number. -/
theorem max_bot (a : EReal) : max (Ideal.ofBits .f32 0xFF800000#32) a = a := by rw [ofBits_bot]; exact max_eq_right bot_le

/-- The root of the depth of a head. -/
def root : EReal := ((Real.sqrt 32 : ℝ) : EReal)

/-- The root of the constant 32 is √32. -/
theorem sqrt_depth : Ideal.sqrt (Ideal.ofBits .f32 0x42000000#32) = root := by rw [ofBits_depth, Ideal.sqrt_coe, if_neg (by norm_num)]; rfl

/-- √32 is positive. -/
theorem sqrt_pos : (0 : ℝ) < Real.sqrt 32 := Real.sqrt_pos.mpr (by norm_num)

/-- To divide by the root is to multiply by its inverse. -/
theorem div_root (a : EReal) : Ideal.div a root = a * (((Real.sqrt 32)⁻¹ : ℝ) : EReal) := by
  unfold root; rw [Ideal.div_coe sqrt_pos.ne', one_div]

/-- A small column number's word is the column number. -/
theorem ofInt_small (j : ℕ) (h : j < 128) : (FloatOps.sitofp (F := Ideal) .f32 (BitVec.ofNat 32 j) : EReal) = ((j : ℝ) : EReal) := by
  have e : (BitVec.ofNat 32 j).toInt = j := by
    rw [BitVec.toInt_eq_toNat_of_lt (by rw [BitVec.toNat_ofNat]; omega), BitVec.toNat_ofNat]
    congr 1; omega
  show (((BitVec.ofNat 32 j).toInt : ℝ) : EReal) = _
  rw [e]; simp

/-- A column's number, converted to a float, is that number. -/
theorem ofInt_col (j : Fin 128) : (FloatOps.sitofp (F := Ideal) .f32 (BitVec.ofNat 32 j.val) : EReal) = ((j.val : ℝ) : EReal) := ofInt_small _ j.isLt

end Cert.Math

end
-- ==== Proof.Precondition.lean ====
/- What the precondition gives: the entries that are used are reals, and every sequence has a valid key. -/
module

public import proofs.«01_k».proof.Defs
public import proofs.«01_k».proof.Proof.Math.Constants

@[expose] public section

set_option maxRecDepth 16384

noncomputable section

namespace Cert.Proof

open Idealize.ShloMosaic Idealize.ShloMosaic.TcCoe
open Cert.Pre_finite_and_nonempty

/-- The shapes of the precondition's operations fit. -/
instance preFacts : Cert.Pre_finite_and_nonempty.Facts := ⟨by decide, by decide, by decide, by decide, by decide, by decide⟩

/-- An entry whose absolute value is below infinity is a real. -/
theorem real_of_finite {s : Shape} (hb : S_.BroadcastsInDim s (![] : Fin 0 → Fin s.rank)) (x : FVec Ideal s .f32)
    (h : cmpf .olt (Host.absf x) (broadcastInDim s ![] hb (constant (F := Ideal) S_ .f32 0x7F800000#32)) = fun _ => 1#1) (i : s.Idx) : ∃ r : ℝ, x i = (r : EReal) := by
  have h1 : Ideal.cmp .olt (max (x i : EReal) (-(x i : EReal))) (Ideal.ofBits .f32 0x7F800000#32) = 1#1 := congrFun h i
  rw [Math.ofBits_top] at h1
  have h2 : max (x i : EReal) (-(x i : EReal)) < ⊤ := by
    by_contra hn
    simp [Ideal.cmp, hn] at h1
  obtain ⟨ht, hbot⟩ := max_lt_iff.mp h2
  refine ⟨(x i : EReal).toReal, (EReal.coe_toReal ht.ne fun e => ?_).symm⟩
  rw [e] at hbot; simp at hbot

/-- A length of one or more is above zero. -/
theorem pos_of_nonempty (hb : S_.BroadcastsInDim S8 (![] : Fin 0 → Fin S8.rank)) (n : IVec S8 32)
    (h : cmpi .sge n (broadcastInDim S8 ![] hb (constantI S_ 32 1#32)) = fun _ => 1#1) (b : S8.Idx) : BitVec.slt 0#32 (n b) := by
  have h1 : BitVec.ofBool (BitVec.sle 1#32 (n b)) = 1#1 := congrFun h b
  have h2 : BitVec.sle 1#32 (n b) = true := by
    by_contra hn
    rw [Bool.not_eq_true] at hn; rw [hn] at h1; exact absurd h1 (by decide)
  rw [BitVec.sle_iff_toInt_le] at h2
  rw [BitVec.slt_iff_toInt_lt]
  have e : (1#32 : BitVec 32).toInt = 1 := by decide
  have e0 : (0#32 : BitVec 32).toInt = 0 := by decide
  omega

end Cert.Proof

end
-- ==== Proof.Claims.lean ====
/- The claims that say nothing of the values: every program runs to its end, and the named constants are what they stand for. -/
module

public import proofs.«01_k».proof.Defs
public import proofs.«01_k».proof.Proof.Kernel.Frame
public import proofs.«01_k».proof.Proof.KernelIdeal.Frame
public import proofs.«01_k».proof.Proof.Gen.ReferenceIdeal.Run
public import proofs.«01_k».proof.Proof.Precondition

@[expose] public section

noncomputable section

namespace Cert.Proof

open Idealize.ShloMosaic Idealize.ShloMosaic.TcCoe Idealize.SL.Sem

/-- The kernel as printed runs to its end, its arguments unchanged and its semaphores at zero. -/
theorem frame_kernel : Cert.quiescent_Kernel := fun m ρ _ => Cert.Kernel.Run.frame m ρ
/-- So does the idealized kernel, -/
theorem frame_ideal : Cert.quiescent_KernelIdeal := fun m ρ _ => Cert.KernelIdeal.Run.frame m ρ
/-- and the idealized reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel's, said of the arguments that meet the precondition. -/
theorem frame_ideal_pre : Cert.quiescent_KernelIdeal_pre_finite_and_nonempty := fun m ρ _ => Cert.KernelIdeal.Run.frame m ρ
/-- The idealized reference's, likewise. -/
theorem frame_reference_pre : Cert.quiescent_ReferenceIdeal_pre_finite_and_nonempty := fun m ρ _ => frame_reference m ρ trivial

/-- The three named constants: the scale `1/√32`, and the two stand-ins for `−∞`. -/
theorem preserves : Cert.preserves_Kernel_KernelIdeal :=
  ⟨IdealRules.named_const.statement Cert.KernelIdeal.κ "inv_sqrt_hd" .f32 0x3E3504F3#32 (((Real.sqrt 32)⁻¹ : ℝ) : EReal) rfl,
    IdealRules.named_const.statement Cert.KernelIdeal.κ "masked" .f32 0xC9742400#32 ⊥ rfl,
    IdealRules.named_const.statement Cert.KernelIdeal.κ "removed" .f32 0xFF61B1E6#32 ⊥ rfl⟩

end Cert.Proof

end
-- ==== Proof.KernelIdeal.Blocks.lean ====
/- The blocks that the points read, as entries of the arguments. -/
module

public import proofs.«01_k».proof.Proof.KernelIdeal.Frame
public import Idealize.ShloMosaic.Lib.Pipeline.ValueKit.Point

@[expose] public section

set_option maxRecDepth 16384

noncomputable section

namespace Cert.KernelIdeal.Run

open Idealize.ShloMosaic Idealize.ShloMosaic.TcCoe Idealize.ShloMosaic.Tactic
open Cert.KernelIdeal.Gen

variable {F : FTy → Type} [FloatOps F] [Named F]

/-! ## Where the blocks stand -/

/-- The windows but the last are at the front of their arrays at every point. -/
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
/-- The result's block at a point is that of the sequence the point is for, -/
theorem idx9 : ∀ t : Fin cfg0.N, win0_9.index t = ![t.val - 1, 0, 0] := (by decide +kernel : ∀ t : Fin grid0.N, _)
/-- and it is written out at the token points alone. -/
theorem flush9 : ∀ t : Fin cfg0.N, win0_9.flush t = true → 1 ≤ t.val := (by decide +kernel : ∀ t : Fin grid0.N, _)

variable (m : (ℓ : Loc nD τ sig) → Buf (Elt F) ℓ) (c : Dev nD)

/-! ## What is read there -/

/-- The entries of the windows, as arguments: the valid lengths, -/
theorem lens_at (t : Fin cfg0.N) (b : Fin 8) :
    (iblk m c 0 t : Vec F S1x8 .i32) (ix2 0 b) = (m ((c.tc : Thread nD τ).loc main_arg4) : Vec F S8 .i32) (ix1 b) := by
  blk_ext! [iblk, V, idx0 t]
/-- the queries, -/
theorem queries_at (t : Fin cfg0.N) (b : Fin 8) (i : Fin 16) (d : Fin 256) :
    (iblk m c 1 t : Vec F S128x256 .f32) (ix2 (⟨16 * b.val + i.val, by omega⟩ : Fin 128) d) = (m ((c.tc : Thread nD τ).loc main_arg0) : Vec F S8x16x256 .f32) (ix3 b i d) := by
  blk_ext! [iblk, V, idx1 t]
/-- the statistic keys, -/
theorem keys_at (t : Fin cfg0.N) (b : Fin 8) (s : Fin 128) (d : Fin 256) :
    (iblk m c 2 t : Vec F S1024x256 .f32) (ix2 (⟨128 * b.val + s.val, by omega⟩ : Fin 1024) d) = (m ((c.tc : Thread nD τ).loc main_arg1) : Vec F S8x128x256 .f32) (ix3 b s d) := by
  blk_ext! [iblk, V, idx2 t]
/-- and the six matrices. -/
theorem block3 (t : Fin cfg0.N) : (iblk m c 3 t : Vec F S256x256 .f32) = m ((c.tc : Thread nD τ).loc main_arg5) := by blk_ext! [iblk, V, idx3 t]
theorem block4 (t : Fin cfg0.N) : (iblk m c 4 t : Vec F S256x256 .f32) = m ((c.tc : Thread nD τ).loc main_arg6) := by blk_ext! [iblk, V, idx4 t]
theorem block5 (t : Fin cfg0.N) : (iblk m c 5 t : Vec F S256x256 .f32) = m ((c.tc : Thread nD τ).loc main_arg7) := by blk_ext! [iblk, V, idx5 t]
theorem block6 (t : Fin cfg0.N) : (iblk m c 6 t : Vec F S256x256 .f32) = m ((c.tc : Thread nD τ).loc main_arg8) := by blk_ext! [iblk, V, idx6 t]
theorem block7 (t : Fin cfg0.N) : (iblk m c 7 t : Vec F S256x256 .f32) = m ((c.tc : Thread nD τ).loc main_arg9) := by blk_ext! [iblk, V, idx7 t]
theorem block8 (t : Fin cfg0.N) : (iblk m c 8 t : Vec F S256x256 .f32) = m ((c.tc : Thread nD τ).loc main_arg10) := by blk_ext! [iblk, V, idx8 t]

/-! ## What a token point reads of the scratch and the streamed arrays -/

/-- The entries of the rows that a token point reads: of the stored queries, -/
theorem qkRows_at (X : Vec F S8x128x256 .f32) (b h : Fin 8) (i : Fin 16) (d : Fin 256) :
    qkRows X b (ix3 h i d) = X (ix3 h (⟨16 * b.val + i.val, by omega⟩ : Fin 128) d) := by
  refine congrArg X (funext fun a => Fin.ext ?_)
  fin_cases a <;> simp [ix3, Rect.unit, Rect.emb]
/-- of the stored weights, -/
theorem wRows_at (X : Vec F S1024x128 .f32) (b : Fin 8) (r s : Fin 128) :
    wRows X b (ix2 r s) = X (ix2 (⟨128 * b.val + r.val, by omega⟩ : Fin 1024) s) := by
  refine congrArg X (funext fun a => Fin.ext ?_)
  fin_cases a <;> simp [ix2, Rect.unit, Rect.emb]
/-- and of the tokens that were copied in. -/
theorem slotRows_at (X : Vec F S1024x64x256 .f32) (b : Fin 8) (s : Fin 128) (t : Fin 16) (d : Fin 256) :
    slotRows (srcRows X b) (ix4 0 s t d) = X (ix3 (⟨128 * b.val + s.val, by omega⟩ : Fin 1024) (⟨48 + t.val, by omega⟩ : Fin 64) d) := by
  have e : slotRows (srcRows X b) (ix4 0 s t d) = srcRows X b (ix3 s t d) := by pointwise [slotRows]
  rw [e]
  refine congrArg X (funext fun a => Fin.ext ?_)
  fin_cases a <;> simp [ix3, Rect.unit, Rect.emb]

/-- The result's array ends holding, for every sequence, the block its token point wrote. -/
theorem array_at (G : Vec F S8x16x256 .f32)
    (hG : ∀ (t : Fin cfg0.N) (b : Fin 8), t.val = b.val + 1 → ∀ (i : Fin 16) (j : Fin 256), outV m c t (ix3 0 i j) = G (ix3 b i j)) :
    (dats m 0 c).arrAt 9 cfg0.N = G := by
  refine (dats m 0 c).arrAt_eq_of_covers 9 _ (by decide +kernel) fun t hf y => ?_
  blk_simp [idx9 t]
  rw [after_9]
  have h1 := flush9 t hf
  have hN : t.val < 9 := lt_of_lt_of_eq t.isLt N_0
  let y' : S1x16x256.Idx := y
  have ey : y' = ix3 0 (y' 1) (y' 2) := by
    funext a; fin_cases a
    · exact Subsingleton.elim (α := Fin 1) _ _
    · rfl
    · rfl
  refine (congrArg (outV m c t) ey).trans ((hG t ⟨t.val - 1, by omega⟩ (by simp; omega) (y' 1) (y' 2)).trans (congrArg G ?_))
  blk_ext [idx9 t] <;> rfl

end Cert.KernelIdeal.Run

end
-- ==== Proof.KernelIdeal.Weights.lean ====
/- The statistic stage as functions of whole arrays: the scores, the eight rounds, the weights, the projected queries. -/
module

public import proofs.«01_k».proof.Proof.KernelIdeal.Body
public import Idealize.ShloMosaic.Lib.Pointwise
public import Idealize.ShloMosaic.Lib.Pipeline.ValueKit.Tiles
public import Idealize.ShloMosaic.Lib.Pipeline.ValueKit.Basic

@[expose] public section

set_option maxRecDepth 16384

noncomputable section

namespace Cert.KernelIdeal.Run

open Idealize.ShloMosaic Idealize.ShloMosaic.TcCoe Idealize.ShloMosaic.Tactic
open Idealize.SL.Sem
open Cert.KernelIdeal.Gen

variable {F : FTy → Type} [FloatOps F] [Named F]

/-! ## The scores -/

/-- The cuts by sequence and by head fit. -/
theorem slices_q (b : Fin 8) : S128x256.Slices ![16 * b.val, 0] S16x256 := by fin_cases b <;> decide
theorem slices_k (b : Fin 8) : S1024x256.Slices ![128 * b.val, 0] S128x256 := by fin_cases b <;> decide
theorem slices_qh (h : Fin 8) : S16x256.Slices ![0, 32 * h.val] S16x32 := by fin_cases h <;> decide
theorem slices_kh (h : Fin 8) : S128x256.Slices ![0, 32 * h.val] S128x32 := by fin_cases h <;> decide
theorem slices_wh (h : Fin 8) : S256x256.Slices ![0, 32 * h.val] S256x32 := by fin_cases h <;> decide

/-- One head's dot products of sixteen queries with 128 keys. -/
def headDot (q : FVec F S16x256 .f32) (k : FVec F S128x256 .f32) (h : Fin 8) : FVec F S16x128 .f32 :=
  matmul dot_S16x32_S128x32_S16x128_1_1_0_0_n_n none (extractStridedSlice S16x32 ![0, 32 * h.val] q (slices_qh h))
    (extractStridedSlice S128x32 ![0, 32 * h.val] k (slices_kh h)) (constant S16x128 .f32 0x00000000#32)

/-- Block `b`'s dot products of every head, one head's sixteen rows after another's. -/
def blockDot (qs : FVec F S128x256 .f32) (ks : FVec F S1024x256 .f32) (b : Fin 8) : FVec F S128x128 .f32 :=
  let q : FVec F S16x256 .f32 := extractStridedSlice S16x256 ![16 * b.val, 0] qs (slices_q b)
  let k : FVec F S128x256 .f32 := extractStridedSlice S128x256 ![128 * b.val, 0] ks (slices_k b)
  concatenate S128x128 0 [⟨S16x128, headDot q k 0⟩, ⟨S16x128, headDot q k 1⟩, ⟨S16x128, headDot q k 2⟩, ⟨S16x128, headDot q k 3⟩,
    ⟨S16x128, headDot q k 4⟩, ⟨S16x128, headDot q k 5⟩, ⟨S16x128, headDot q k 6⟩, ⟨S16x128, headDot q k 7⟩]
    concatenates_S16x128_S16x128_S16x128_S16x128_S16x128_S16x128_S16x128_S16x128_S128x128_d0

/-- Block `b`'s scores: the scaled products at the first `n` keys, the mask elsewhere. -/
def blockScore (qs : FVec F S128x256 .f32) (ks : FVec F S1024x256 .f32) (n : BitVec 32) (b : Fin 8) : FVec F S128x128 .f32 :=
  select (cmpi .slt (iota .tc S128x128 32 [1] iota_S128x128_d1_w32) (broadcast S128x128 n))
    (mulf (blockDot qs ks b) (broadcast S128x128 (Named.named κ "inv_sqrt_hd" 0x3E3504F3#32)))
    (broadcast S128x128 (Named.named κ "masked" 0xC9742400#32))

/-- The scores of every block. -/
def scores (qs : FVec F S128x256 .f32) (ks : FVec F S1024x256 .f32) (n : Fin 8 → BitVec 32) : FVec F S1024x128 .f32 :=
  concatenate S1024x128 0 [⟨S128x128, blockScore qs ks (n 0) 0⟩, ⟨S128x128, blockScore qs ks (n 1) 1⟩, ⟨S128x128, blockScore qs ks (n 2) 2⟩,
    ⟨S128x128, blockScore qs ks (n 3) 3⟩, ⟨S128x128, blockScore qs ks (n 4) 4⟩, ⟨S128x128, blockScore qs ks (n 5) 5⟩,
    ⟨S128x128, blockScore qs ks (n 6) 6⟩, ⟨S128x128, blockScore qs ks (n 7) 7⟩]
    concatenates_S128x128_S128x128_S128x128_S128x128_S128x128_S128x128_S128x128_S128x128_S1024x128_d0

/-! ## The rounds and the weights -/

/-- The greatest entry of every row, -/
def rowMax (x : FVec F S1024x128 .f32) : FVec F S1024 .f32 := multiReduction .maximumf [1] S1024 x 0xFF800000#32 reduces_S1024x128_S1024 (.inl rfl) rfl
/-- and a value per row put in every column. -/
def spread (x : FVec F S1024 .f32) : FVec F S1024x128 .f32 := broadcastTo S1024x128 (shapeCast S1024x1 x shapeCasts_S1024_S1024x1) broadcasts_S1024x1_S1024x128
/-- The column numbers. -/
def cols : FVec F S1024x128 .f32 := sitofp .f32 (iota .tc S1024x128 32 [1] iota_S1024x128_d1_w32)

/-- One round: the first greatest entry of every row is taken away. -/
def round (x : FVec F S1024x128 .f32) : FVec F S1024x128 .f32 :=
  select (cmpf .oeq (cols (F := F)) (spread (multiReduction .minimumf [1] S1024
      (select (cmpf .oeq x (spread (rowMax x))) cols (broadcast S1024x128 (Scalar.ofBits .f32 0x4E6E6B28#32))) 0x7F800000#32 reduces_S1024x128_S1024 (.inl rfl) rfl)))
    (broadcast S1024x128 (Named.named κ "removed" 0xFF61B1E6#32)) x

/-- The exponentials of what eight rounds took away, zero elsewhere. -/
def picked (x : FVec F S1024x128 .f32) : FVec F S1024x128 .f32 :=
  select (cmpf .one (round (round (round (round (round (round (round (round x)))))))) x) (exp (subf x (spread (rowMax x))))
    (broadcast S1024x128 (Scalar.ofBits .f32 0x00000000#32))

/-- The weights. -/
def weights (x : FVec F S1024x128 .f32) : FVec F S1024x128 .f32 :=
  shapeCast S1024x128 (divf (picked x) (spread (multiReduction .add [1] S1024 (picked x) 0x00000000#32 reduces_S1024x128_S1024 (.inl rfl) rfl)))
    shapeCasts_S1024x128_S1024x128

/-! ## The projections -/

/-- One head's projected queries taken back through the key projection. -/
def backHead (qt : FVec F S128x256 .f32) (wk : Vec F S256x256 .f32) (h : Fin 8) : FVec F S1x128x256 .f32 :=
  shapeCast S1x128x256 (matmul dot_S128x32_S256x32_S128x256_1_1_0_0_n_n none (extractStridedSlice S128x32 ![0, 32 * h.val] qt (slices_kh h))
    (extractStridedSlice S256x32 ![0, 32 * h.val] wk (slices_wh h)) (constant S128x256 .f32 0x00000000#32)) shapeCasts_S128x256_S1x128x256

/-- The places that are written and read fit their arrays: a head, -/
theorem inb_head (h : Fin 8) : ∀ a, (![h.val, 0, 0] : Fin 3 → Nat) a + S1x128x256.size a ≤ S8x128x256.size a := by
  have := h.isLt; intro a; fin_cases a <;> simp <;> omega

/-- The stores of the projected queries, one a head, the last head's last. -/
def backPieces (qt : FVec F S128x256 .f32) (wk : Vec F S256x256 .f32) : List (View.Piece (Elt F) S8x128x256 .f32) :=
  List.ofFn fun k : Fin 8 => ⟨Rect.unit (s := S8x128x256) ![k.rev.val, 0, 0] S1x128x256.size (inb_head k.rev), backHead qt wk k.rev⟩

/-- What those stores leave in head `h`'s plane. -/
theorem backPieces_at (qt : FVec F S128x256 .f32) (wk : Vec F S256x256 .f32) (h : Fin 8) (r : Fin 128) (d : Fin 256) :
    View.canon (backPieces qt wk) (ix3 h r d) = backHead qt wk h (ix3 0 r d) := by
  unfold backPieces
  refine View.canon_ofFn_unit_eq_of_forall (Val := Elt F) (S := S8x128x256) (e := .f32) (fun k : Fin 8 => ![k.rev.val, 0, 0]) S1x128x256.size (fun k => inb_head k.rev)
    (fun k => backHead qt wk k.rev) (ix3 h r d) _ ⟨h.rev, fun a => ?_⟩ ?_
  · have := r.isLt; have := d.isLt
    fin_cases a <;> simp [ix3] <;> omega
  · intro k x hx
    obtain rfl : k.rev = h := Fin.ext (by have := hx 0; have := (x 0).isLt; simp [ix3] at *; omega)
    congr 1; funext a; apply Fin.ext
    have := hx a
    fin_cases a <;> simp [ix3] at * <;> omega

/-! ## What the first point stores -/

/-- and a length. -/
theorem inb_len (b : Fin 8) : ∀ a, (![0, b.val] : Fin 2 → Nat) a + S1x1.size a ≤ S1x8.size a := by
  have := b.isLt; intro a; fin_cases a <;> simp <;> omega

/-- A load of a whole array of rank two. -/
theorem load_whole {sp : Space} {a b : ℕ} (M : Memref sig .tc sp ⟨2, ![a, b]⟩ .f32) (hM : M.IsWhole) (x : Vec F ⟨2, ![a, b]⟩ .f32)
    (inb : ∀ i, (![0, 0] : Fin 2 → Nat) i + (⟨2, ![a, b]⟩ : Shape).size i ≤ (⟨2, ![a, b]⟩ : Shape).size i) :
    View.readAt (Elt F) M.view (Rect.unit (s := ⟨2, ![a, b]⟩) ![0, 0] (⟨2, ![a, b]⟩ : Shape).size inb).toLoadRect (hM.unread x) = x := by
  funext y; rw [hM.readAt_unread]; congr 1
  funext a; apply Fin.ext; fin_cases a <;> simp [LoadRect.idx, Rect.toLoadRect]

section
variable (c : Dev nD)
    (arg1 : Memref sig .tc .smem S1x8 .i32) (harg1 : arg1.IsWhole) (arg2 : Memref sig .tc .vmem S128x256 .f32) (harg2 : arg2.IsWhole)
    (arg3 : Memref sig .tc .vmem S1024x256 .f32) (harg3 : arg3.IsWhole) (arg4 : Memref sig .tc .vmem S256x256 .f32) (harg4 : arg4.IsWhole)
    (arg6 : Memref sig .tc .vmem S256x256 .f32) (harg6 : arg6.IsWhole)
    (x1 : Vec F S1x8 .i32) (x2 : Vec F S128x256 .f32) (x3 : Vec F S1024x256 .f32) (x4 x6 : Vec F S256x256 .f32)

/-- The number of keys of block `b`, as loaded. -/
def lenAt (b : Fin 8) : BitVec 32 :=
  View.readAt (Elt F) arg1.view (Rect.unit (s := S1x8) ![0, b.val] S1x1.size (inb_len b)).toLoadRect (harg1.unread x1) (Shape.Idx.first (show 0 < S1x1.numel by decide))

/-- The length that is read for a sequence is its entry. -/
theorem lenAt_eq (b : Fin 8) : lenAt arg1 harg1 x1 b = x1 (ix2 (0 : Fin 1) b) := by
  unfold lenAt
  rw [harg1.readAt_unread]; congr 1
  funext a; apply Fin.ext; fin_cases a <;> simp [LoadRect.idx, Rect.toLoadRect, Shape.Idx.first]

/-- The queries and -/
theorem queries_eq : statRun.sl.r c arg2 harg2 arg4 harg4 x2 x4 = k0_pay4 x2 x4 := by
  unfold statRun.sl.r; rw [load_whole, load_whole]

/-- the keys that the statistic point computes. -/
theorem keys_eq : statRun.sl.r_2 c arg3 harg3 arg6 harg6 x3 x6 = k0_pay6 x3 x6 := by
  unfold statRun.sl.r_2; rw [load_whole, load_whole]

/-- What is stored as the weights is the weights of the scores. -/
theorem weights_store :
    k0_pay1 (statRun.sl.r_59 c arg1 harg1 arg2 harg2 arg3 harg3 arg4 harg4 arg6 harg6 x1 x2 x3 x4 x6) k0_pay65
        (statRun.sl.r_60 c arg1 harg1 arg2 harg2 arg3 harg3 arg4 harg4 arg6 harg6 x1 x2 x3 x4 x6)
        (statRun.sl.r_63 c arg1 harg1 arg2 harg2 arg3 harg3 arg4 harg4 arg6 harg6 x1 x2 x3 x4 x6)
        (statRun.sl.r_64 c arg1 harg1 arg2 harg2 arg3 harg3 arg4 harg4 arg6 harg6 x1 x2 x3 x4 x6)
      = weights (scores (k0_pay4 x2 x4) (k0_pay6 x3 x6) fun b => x1 (ix2 (0 : Fin 1) b)) := by
  rw [← queries_eq c arg2 harg2 arg4 harg4, ← keys_eq c arg3 harg3 arg6 harg6, ← funext (lenAt_eq arg1 harg1 x1)]
  rfl

end

variable (m : (ℓ : Loc nD τ sig) → Buf (Elt F) ℓ)

/-- The weights that the first point leaves, -/
theorem wV_eq (c : Dev nD) : wV m c = weights (scores (k0_pay4 (iblk m c 1 first) (iblk m c 3 first)) (k0_pay6 (iblk m c 2 first) (iblk m c 5 first))
    fun b => (iblk m c 0 first : Vec F S1x8 .i32) (ix2 (0 : Fin 1) b)) := by
  unfold wV statPieces statRun
  dsimp only
  rw [weights_store]
  exact View.canon_cons_unit_lit _ _ _ (by decide)

/-- and the pieces of the projected queries. -/
theorem qkV_eq (c : Dev nD) : qkV m c = View.canon (backPieces (k0_pay5 (iblk m c 1 first) (iblk m c 4 first)) (iblk m c 6 first)) := by
  unfold qkV statPieces statRun
  dsimp only
  conv_rhs => rw [← load_whole (stage0_1 (cfg0.slots first 1)) (hstage0_1 _) (iblk m c 1 first) inb_S128x256_S128x256_0_0,
    ← load_whole (stage0_4 (cfg0.slots first 4)) (hstage0_4 _) (iblk m c 4 first) inb_S256x256_S256x256_0_0,
    ← load_whole (stage0_6 (cfg0.slots first 6)) (hstage0_6 _) (iblk m c 6 first) inb_S256x256_S256x256_0_0]
  refine congrArg View.canon ?_
  unfold backPieces
  simp only [List.ofFn_succ, List.ofFn_zero]
  repeat' refine congrArg₂ List.cons ?_ ?_
  all_goals rfl

end Cert.KernelIdeal.Run
-- ==== Proof.Math.Rank.lean ====
/- Ranks in a row of extended reals, and the two ways of taking the greatest entries: one at a time, and by a stable sort. -/
module

public import Idealize.ShloMosaic.PureOps.Ideal
public import Idealize.ShloMosaic.Lib.SortFacts

@[expose] public section

noncomputable section

namespace Cert.Math

open Idealize.ShloMosaic
open scoped Classical

variable {n : ℕ} (x : Fin n → EReal)

/-- Entry `i` comes before entry `j` when it is greater, or equal and further left. -/
def Beats (i j : Fin n) : Prop := x j < x i ∨ (x i = x j ∧ i < j)

/-- How many entries come before entry `j`. -/
def rank (j : Fin n) : ℕ := (Finset.univ.filter fun i => Beats x i j).card

/-- No entry comes before itself. -/
theorem beats_irrefl (i : Fin n) : ¬Beats x i i := by rintro (h | ⟨-, h⟩) <;> exact lt_irrefl _ h

/-- Coming before is transitive. -/
theorem beats_trans {i j k : Fin n} (h : Beats x i j) (h' : Beats x j k) : Beats x i k := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Of two different entries one comes before the other. -/
theorem beats_total {i j : Fin n} (h : i ≠ j) : Beats x i j ∨ Beats x j i := by
  rcases lt_trichotomy (x i) (x j) with g | g | g
  · exact .inr (.inl g)
  · rcases lt_or_gt_of_ne h with l | l
    · exact .inl (.inr ⟨g, l⟩)
    · exact .inr (.inr ⟨g.symm, l⟩)
  · exact .inl (.inl g)

/-- An entry that comes before another has the smaller rank. -/
theorem rank_lt_of_beats {i j : Fin n} (h : Beats x i j) : rank x i < rank x j := by
  apply Finset.card_lt_card
  rw [Finset.ssubset_iff_of_subset]
  · exact ⟨i, by simpa using h, by simpa using beats_irrefl x i⟩
  · intro k hk
    simp only [Finset.mem_filter, Finset.mem_univ, true_and] at hk ⊢
    exact beats_trans x hk h

/-- Ranks differ. -/
theorem rank_injective : Function.Injective (rank x) := by
  intro i j h
  by_contra hne
  rcases beats_total x hne with g | g
  · exact absurd h (rank_lt_of_beats x g).ne
  · exact absurd h (rank_lt_of_beats x g).ne'

/-- At most `r` entries have a rank below `r`. -/
theorem card_rank_lt (r : ℕ) : (Finset.univ.filter fun i => rank x i < r).card ≤ r := by
  have h := Finset.card_le_card_of_injOn (s := Finset.univ.filter fun i => rank x i < r) (t := Finset.range r) (rank x)
    (by intro i hi; simpa using hi) (fun i _ j _ h => rank_injective x h)
  simpa using h

/-! ## One at a time -/

/-- The row with its `r` first entries taken away. -/
def taken (r : ℕ) (j : Fin n) : EReal := if rank x j < r then ⊥ else x j

/-- One step of taking away: the least position that holds the row's greatest entry is found, a number `big` standing where
    the greatest entry is not, and the entry there is taken away. -/
def step (big : EReal) (j : Fin n) : EReal :=
  if ((j.val : ℝ) : EReal) = Finset.univ.inf (fun k => if x k = Finset.univ.sup x then ((k.val : ℝ) : EReal) else big) then ⊥ else x j

/-- Every position lies below `big`, so the step takes away the first greatest entry. -/
theorem step_eq (big : EReal) (hbig : ∀ j : Fin n, ((j.val : ℝ) : EReal) ≤ big) (p : Fin n) (hp : x p = Finset.univ.sup x)
    (hmin : ∀ k, x k = Finset.univ.sup x → p ≤ k) (j : Fin n) : step x big j = if j = p then ⊥ else x j := by
  have hf : Finset.univ.inf (fun k => if x k = Finset.univ.sup x then ((k.val : ℝ) : EReal) else big) = ((p.val : ℝ) : EReal) := by
    apply le_antisymm
    · refine (Finset.inf_le (Finset.mem_univ p)).trans ?_
      rw [if_pos hp]
    · refine Finset.le_inf fun k _ => ?_
      split
      · next h => exact_mod_cast hmin k h
      · exact hbig p
  unfold step
  rw [hf]
  congr 1
  rw [EReal.coe_eq_coe_iff, Nat.cast_inj, Fin.val_inj]

/-- A row that has an entry has a first greatest one. -/
theorem exists_first [NeZero n] : ∃ p, x p = Finset.univ.sup x ∧ ∀ k, x k = Finset.univ.sup x → p ≤ k := by
  obtain ⟨q, -, hq⟩ := Finset.exists_mem_eq_sup Finset.univ ⟨(0 : Fin n), Finset.mem_univ _⟩ x
  have hne : (Finset.univ.filter fun k => x k = Finset.univ.sup x).Nonempty := ⟨q, by simpa using hq.symm⟩
  refine ⟨Finset.min' _ hne, ?_, fun k hk => Finset.min'_le _ _ (by simpa using hk)⟩
  simpa using Finset.min'_mem _ hne

/-- A step after `r` steps is `r + 1` steps. -/
theorem step_taken [NeZero n] (big : EReal) (hbig : ∀ j : Fin n, ((j.val : ℝ) : EReal) ≤ big) (r : ℕ) :
    step (taken x r) big = taken x (r + 1) := by
  obtain ⟨p, hp, hmin⟩ := exists_first (taken x r)
  have hle : ∀ k, taken x r k ≤ taken x r p := fun k => hp ▸ Finset.le_sup (Finset.mem_univ k)
  funext j
  rw [step_eq _ big hbig p hp hmin]
  by_cases hbot : taken x r p = ⊥
  · have hj : taken x r j = ⊥ := le_bot_iff.mp (hbot ▸ hle j)
    rw [hj, ite_self]
    unfold taken at hj ⊢
    split
    · rfl
    · next h => rw [if_neg (by omega)] at hj; exact hj.symm
  · have hpr : ¬rank x p < r := fun h => hbot (if_pos h)
    have hxp : taken x r p = x p := if_neg hpr
    have hsub : (Finset.univ.filter fun i => Beats x i p) ⊆ Finset.univ.filter fun i => rank x i < r := by
      intro i hi
      simp only [Finset.mem_filter, Finset.mem_univ, true_and] at hi ⊢
      by_contra hir
      have hxi : taken x r i = x i := if_neg hir
      have h1 : x i ≤ x p := hxi ▸ hxp ▸ hle i
      rcases hi with g | ⟨e, g⟩
      · exact absurd h1 (not_le.mpr g)
      · exact absurd (hmin i (by rw [← hp, hxi, hxp, e])) (not_le.mpr g)
    have hr : rank x p = r := le_antisymm ((Finset.card_le_card hsub).trans (card_rank_lt x r)) (not_lt.mp hpr)
    unfold taken
    by_cases hjp : j = p
    · subst hjp; rw [if_pos rfl, if_pos (by omega)]
    · have : rank x j ≠ r := fun h => hjp (rank_injective x (h.trans hr.symm))
      rw [if_neg hjp]
      by_cases hj : rank x j < r
      · rw [if_pos hj, if_pos (by omega)]
      · rw [if_neg hj, if_neg (by omega)]

/-- After no round nothing has been taken. -/
theorem taken_zero : taken x 0 = x := by funext j; exact if_neg (by omega)

/-! ## The entries that are kept -/

/-- The row's `r` first entries, −∞ in the others' places. -/
def kept (r : ℕ) (j : Fin n) : EReal := if rank x j < r then x j else ⊥

/-- The kept entries have the row's greatest among them. -/
theorem sup_kept [NeZero n] (r : ℕ) (hr : 0 < r) : Finset.univ.sup (kept x r) = Finset.univ.sup x := by
  apply le_antisymm
  · refine Finset.sup_le fun k _ => ?_
    unfold kept
    split
    · exact Finset.le_sup (Finset.mem_univ k)
    · exact bot_le
  · obtain ⟨p, hp, hmin⟩ := exists_first x
    have h0 : rank x p = 0 := by
      unfold rank
      rw [Finset.card_eq_zero, Finset.filter_eq_empty_iff]
      rintro i - (g | ⟨e, g⟩)
      · exact absurd (hp ▸ Finset.le_sup (Finset.mem_univ i) : x i ≤ x p) (not_le.mpr g)
      · exact absurd (hmin i (e.trans hp)) (not_le.mpr g)
    refine le_trans ?_ (Finset.le_sup (Finset.mem_univ p))
    unfold kept
    rw [if_pos (by omega), hp]

/-! ## By a stable sort -/

/-- An arrangement of the row in which no later entry comes before an earlier one puts the entry of rank `k` at place `k`. -/
theorem rank_of_sorted (σ : Fin n → Fin n) (hσ : Function.Injective σ) (hs : ∀ k l, k < l → ¬Beats x (σ l) (σ k)) (k : Fin n) :
    rank x (σ k) = k.val := by
  have e : (Finset.univ.filter fun i => Beats x i (σ k)) = (Finset.Iio k).image σ := by
    ext i
    obtain ⟨l, rfl⟩ := (Finite.injective_iff_surjective.mp hσ) i
    simp only [Finset.mem_filter, Finset.mem_univ, true_and, Finset.mem_image, Finset.mem_Iio]
    constructor
    · intro h
      refine ⟨l, ?_, rfl⟩
      rcases lt_trichotomy l k with g | g | g
      · exact g
      · exact absurd (g ▸ h) (beats_irrefl x _)
      · exact absurd h (hs k l g)
    · rintro ⟨l', h, e⟩
      rw [← e]
      rcases beats_total x (fun q => absurd (hσ q) h.ne : σ l' ≠ σ k) with g | g
      · exact g
      · exact absurd g (hs l' k h)
  unfold rank
  rw [e, Finset.card_image_of_injective _ hσ]
  simp

/-- Putting a position in front of a row arranged from the positions right of it keeps the row arranged. -/
theorem insert_arranged (R : Fin n → Fin n → Bool) (hR : ∀ i j, R i j = true ↔ x j < x i) (a : Fin n) (l : List (Fin n))
    (hl : l.Pairwise (Beats x)) (ha : ∀ b ∈ l, a < b) : (insertBefore R a l).Pairwise (Beats x) := by
  induction l with
  | nil => exact List.pairwise_singleton _ _
  | cons b l ih =>
    have hl' := List.pairwise_cons.mp hl
    unfold insertBefore
    split
    · next h =>
      refine List.pairwise_cons.mpr ⟨fun c hc => ?_, ih hl'.2 fun c hc => ha c (List.mem_cons_of_mem _ hc)⟩
      rcases List.mem_cons.mp ((perm_insertBefore R a l).mem_iff.mp hc) with rfl | hc
      · exact .inl ((hR _ _).mp h)
      · exact hl'.1 c hc
    · next h =>
      have hba : x b ≤ x a := not_lt.mp fun g => h ((hR _ _).mpr g)
      refine List.pairwise_cons.mpr ⟨fun c hc => ?_, hl⟩
      have hcb : x c ≤ x b := by
        rcases List.mem_cons.mp hc with rfl | hc
        · exact le_rfl
        · rcases hl'.1 c hc with g | ⟨g, -⟩
          · exact g.le
          · exact g.ge
      rcases (hcb.trans hba).lt_or_eq with g | g
      · exact .inl g
      · exact .inr ⟨g.symm, ha c hc⟩

/-- A stable sort, greater first, of positions in order arranges the row. -/
theorem stableSort_arranged (R : Fin n → Fin n → Bool) (hR : ∀ i j, R i j = true ↔ x j < x i) (l : List (Fin n))
    (hl : l.Pairwise (· < ·)) : (stableSort R l).Pairwise (Beats x) := by
  induction l with
  | nil => exact List.Pairwise.nil
  | cons a l ih =>
    have hl' := List.pairwise_cons.mp hl
    unfold stableSort
    exact insert_arranged x R hR a _ (ih hl'.2) fun b hb => hl'.1 b ((perm_stableSort R l).mem_iff.mp hb)

/-- The position that a stable sort, greater first, puts at place `k` has rank `k`. -/
theorem rank_sortedFrom (R : Fin n → Fin n → Bool) (hR : ∀ i j, R i j = true ↔ x j < x i) (k : Fin n) :
    rank x (sortedFrom R k) = k.val := by
  refine rank_of_sorted x _ (sortedFrom_injective R) (fun k l h => ?_) k
  have hp : ∀ a b : Fin (sortPositions n R).length, a < b → Beats x ((sortPositions n R).get a) ((sortPositions n R).get b) :=
    List.pairwise_iff_get.mp (stableSort_arranged x R hR (List.finRange n) (List.pairwise_lt_finRange n))
  have h' : Beats x (sortedFrom R k) (sortedFrom R l) := by
    unfold sortedFrom
    exact hp _ _ (by simp only [Fin.lt_def, Fin.val_cast]; exact h)
  exact fun g => beats_irrefl x _ (beats_trans x h' g)

end Cert.Math
-- ==== Proof.Math.Softmax.lean ====
/- The softmax over the kept entries of a row, and over the last entries of a longer row. -/
module

public import proofs.«01_k».proof.Proof.Math.Rank

@[expose] public section

noncomputable section

namespace Cert.Math

open Idealize.ShloMosaic
open scoped Classical

variable {n : ℕ}

/-- A sum of reals, taken among the extended reals. -/
theorem coe_sum {ι : Type*} (s : Finset ι) (f : ι → ℝ) : (∑ i ∈ s, ((f i : ℝ) : EReal)) = ((∑ i ∈ s, f i : ℝ) : EReal) := by
  induction s using Finset.induction_on with
  | empty => simp
  | insert a s h ih => rw [Finset.sum_insert h, Finset.sum_insert h, ih, EReal.coe_add]

/-- The softmax of a row. -/
def softmax (y : Fin n → EReal) (j : Fin n) : EReal :=
  Ideal.div (Ideal.exp (y j - Finset.univ.sup y)) (∑ k, Ideal.exp (y k - Finset.univ.sup y))

/-- The exponential of −∞ is zero, -/
theorem exp_bot : Ideal.exp ⊥ = 0 := rfl
/-- and that of a real is the real exponential. -/
theorem exp_real (r : ℝ) : Ideal.exp (r : EReal) = ((Real.exp r : ℝ) : EReal) := rfl

/-- A row of reals and −∞ that is not −∞ throughout has a real greatest entry. -/
theorem sup_real (y : Fin n → EReal) (ht : ∀ j, y j ≠ ⊤) (hb : ∃ j, y j ≠ ⊥) : ∃ M : ℝ, Finset.univ.sup y = (M : EReal) := by
  obtain ⟨j, hj⟩ := hb
  obtain ⟨q, -, hq⟩ := Finset.exists_mem_eq_sup Finset.univ ⟨j, Finset.mem_univ j⟩ y
  have h1 : Finset.univ.sup y ≠ ⊤ := hq ▸ ht q
  have h2 : Finset.univ.sup y ≠ ⊥ := fun h => hj (le_bot_iff.mp (h ▸ Finset.le_sup (Finset.mem_univ j)))
  exact ⟨(Finset.univ.sup y).toReal, (EReal.coe_toReal h1 h2).symm⟩

/-- The exponentials of such a row are reals that are not negative, and that of a real entry is positive. -/
theorem exp_sub_real (a : EReal) (ha : a ≠ ⊤) (M : ℝ) :
    ∃ r : ℝ, Ideal.exp (a - (M : EReal)) = (r : EReal) ∧ 0 ≤ r ∧ (a ≠ ⊥ → 0 < r) := by
  induction a using EReal.rec with
  | bot => exact ⟨0, by rw [EReal.bot_sub, exp_bot]; rfl, le_rfl, fun h => absurd rfl h⟩
  | top => exact absurd rfl ha
  | coe a => exact ⟨Real.exp (a - M), by rw [← EReal.coe_sub, exp_real], (Real.exp_pos _).le, fun _ => Real.exp_pos _⟩

/-- The quotient of two reals, the divisor positive. -/
theorem div_real (a : ℝ) {b : ℝ} (hb : 0 < b) : Ideal.div (a : EReal) (b : EReal) = ((a * (1 / b) : ℝ) : EReal) := by
  rw [Ideal.div_coe hb.ne', EReal.coe_mul]

/-- The softmax's exponentials and their sum, as reals. -/
theorem softmax_parts (y : Fin n → EReal) (ht : ∀ j, y j ≠ ⊤) (hb : ∃ j, y j ≠ ⊥) :
    ∃ (M : ℝ) (E : Fin n → ℝ), Finset.univ.sup y = (M : EReal) ∧ (∀ j, Ideal.exp (y j - Finset.univ.sup y) = (E j : EReal)) ∧ 0 < ∑ j, E j := by
  obtain ⟨M, hM⟩ := sup_real y ht hb
  choose E hE h0 hpos using fun j => exp_sub_real (y j) (ht j) M
  refine ⟨M, E, hM, fun j => by rw [hM, hE], ?_⟩
  obtain ⟨j, hj⟩ := hb
  exact Finset.sum_pos' (fun k _ => h0 k) ⟨j, Finset.mem_univ j, hpos j hj⟩

/-- The softmax of such a row is real. -/
theorem softmax_real (y : Fin n → EReal) (ht : ∀ j, y j ≠ ⊤) (hb : ∃ j, y j ≠ ⊥) :
    ∃ a : Fin n → ℝ, ∀ j, softmax y j = (a j : EReal) := by
  obtain ⟨M, E, hM, hE, hpos⟩ := softmax_parts y ht hb
  refine ⟨fun j => E j * (1 / ∑ k, E k), fun j => ?_⟩
  unfold softmax
  simp only [hE, coe_sum]
  rw [div_real _ hpos]

/-! ## The kept entries -/

/-- The softmax over the `r` first entries of a row, nothing elsewhere. -/
def weight (x : Fin n → EReal) (r : ℕ) (j : Fin n) : EReal := softmax (kept x r) j

/-- The softmax over the first entries of such a row is real. -/
theorem weight_real [NeZero n] (x : Fin n → EReal) (r : ℕ) (hr : 0 < r) (ht : ∀ j, x j ≠ ⊤) (hb : ∃ j, x j ≠ ⊥) :
    ∃ a : Fin n → ℝ, ∀ j, weight x r j = (a j : EReal) := by
  refine softmax_real _ (fun j => ?_) ?_
  · unfold kept; split
    · exact ht j
    · exact bot_ne_top
  · obtain ⟨M, hM⟩ := sup_real x ht hb
    by_contra h
    push Not at h
    have : Finset.univ.sup (kept x r) = ⊥ := le_bot_iff.mp (Finset.sup_le fun k _ => (h k).le)
    rw [sup_kept x r hr, hM] at this
    exact EReal.coe_ne_bot M this

/-- What is written where an entry was taken away: the exponential of its distance from the greatest, and zero elsewhere. -/
theorem exp_taken [NeZero n] (x : Fin n → EReal) (r : ℕ) (hr : 0 < r) (ht : ∀ j, x j ≠ ⊤) (hb : ∃ j, x j ≠ ⊥) (j : Fin n) :
    (if taken x r j ≠ x j then Ideal.exp (x j - Finset.univ.sup x) else 0) = Ideal.exp (kept x r j - Finset.univ.sup (kept x r)) := by
  rw [sup_kept x r hr]
  obtain ⟨M, hM⟩ := sup_real x ht hb
  rw [hM]
  unfold taken kept
  by_cases h : rank x j < r
  · simp only [if_pos h]
    by_cases hx : x j = ⊥
    · rw [if_neg (by rw [hx]; simp), hx, EReal.bot_sub, exp_bot]
    · rw [if_pos (Ne.symm hx)]
  · simp only [if_neg h]
    rw [if_neg (by simp), EReal.bot_sub, exp_bot]

/-! ## The last entries of a longer row -/

/-- A row's entries put at the end of a longer row, −∞ in front. -/
def atEnd {N : ℕ} (o : ℕ) (ho : o + n = N) (y : Fin n → EReal) (t : Fin N) : EReal :=
  if h : o ≤ t.val then y ⟨t.val - o, by have := t.isLt; omega⟩ else ⊥

/-- A sum over the longer row of what vanishes in front is the sum over the row. -/
theorem sum_atEnd {α : Type*} [AddCommMonoid α] {N : ℕ} (o : ℕ) (ho : o + n = N) (f : Fin N → α) (hf : ∀ t, t.val < o → f t = 0) :
    ∑ t, f t = ∑ k : Fin n, f ⟨o + k.val, by have := k.isLt; omega⟩ := by
  subst ho
  rw [Fin.sum_univ_add, Finset.sum_eq_zero (fun i _ => hf _ (by simp)), zero_add]
  rfl

/-- The longer row has the same greatest entry. -/
theorem sup_atEnd {N : ℕ} (o : ℕ) (ho : o + n = N) (y : Fin n → EReal) : Finset.univ.sup (atEnd o ho y) = Finset.univ.sup y := by
  apply le_antisymm
  · refine Finset.sup_le fun t _ => ?_
    unfold atEnd
    split
    · exact Finset.le_sup (Finset.mem_univ _)
    · exact bot_le
  · refine Finset.sup_le fun k _ => ?_
    have hk := k.isLt
    refine le_trans ?_ (Finset.le_sup (Finset.mem_univ (⟨o + k.val, by omega⟩ : Fin N)))
    unfold atEnd
    rw [dif_pos (show o ≤ o + k.val by omega)]
    simp

/-- The softmax of the longer row: nothing in front, the row's own at the end. -/
theorem softmax_atEnd {N : ℕ} (o : ℕ) (ho : o + n = N) (y : Fin n → EReal) (ht : ∀ j, y j ≠ ⊤) (hb : ∃ j, y j ≠ ⊥) (t : Fin N) :
    softmax (atEnd o ho y) t = if h : o ≤ t.val then softmax y ⟨t.val - o, by have := t.isLt; omega⟩ else 0 := by
  obtain ⟨M, E, hM, hE, hpos⟩ := softmax_parts y ht hb
  have hz : ∀ t : Fin N, t.val < o → Ideal.exp (atEnd o ho y t - Finset.univ.sup y) = 0 := by
    intro t h
    unfold atEnd
    rw [dif_neg (by omega), hM, EReal.bot_sub, exp_bot]
  have hs : ∑ t, Ideal.exp (atEnd o ho y t - Finset.univ.sup y) = ∑ k, Ideal.exp (y k - Finset.univ.sup y) := by
    rw [sum_atEnd o ho _ hz]
    refine Finset.sum_congr rfl fun k _ => ?_
    unfold atEnd
    rw [dif_pos (show o ≤ o + k.val by omega)]
    simp
  unfold softmax
  rw [sup_atEnd, hs]
  split
  · next h => unfold atEnd; rw [dif_pos h]
  · next h =>
    rw [hz t (by omega)]
    simp only [hE, coe_sum]
    rw [← EReal.coe_zero, div_real _ hpos, zero_mul]

end Cert.Math
-- ==== Proof.Math.Spec.lean ====
/- The kernel's mathematics for one query, in plain sums: projections, scores, weights, combination; and the two places where the order of
   two sums is changed. -/
module

public import proofs.«01_k».proof.Proof.Math.Softmax
public import proofs.«01_k».proof.Proof.Math.Constants

@[expose] public section

noncomputable section

namespace Cert.Math

open Idealize.ShloMosaic

/-! ## Sums -/

/-- A sum over positions counted `b` to a group is a sum over groups and places within them. -/
theorem sum_groups {α : Type*} [AddCommMonoid α] {N : ℕ} (a b : ℕ) (hN : a * b = N) (f : Fin a → Fin b → α)
    (h₁ : ∀ x : Fin N, x.val / b < a) (h₂ : ∀ x : Fin N, x.val % b < b) :
    ∑ x : Fin N, f ⟨x.val / b, h₁ x⟩ ⟨x.val % b, h₂ x⟩ = ∑ s, ∑ t, f s t := by
  subst hN
  rw [← Fintype.sum_prod_type' f, ← finProdFinEquiv.symm.sum_comp]
  exact Finset.sum_congr rfl fun x _ => rfl

/-- All entries are reals. -/
def Reals {ι : Type*} (x : ι → EReal) : Prop := ∀ i, ∃ r : ℝ, x i = (r : EReal)

/-- A sum of products of reals is a real. -/
theorem Reals.sum_mul {n : ℕ} {x y : Fin n → EReal} (hx : Reals x) (hy : Reals y) : ∃ r : ℝ, ∑ i, x i * y i = (r : EReal) := by
  choose f hf using hx
  choose g hg using hy
  refine ⟨∑ i, f i * g i, ?_⟩
  rw [← coe_sum]
  exact Finset.sum_congr rfl fun i _ => by rw [hf, hg, EReal.coe_mul]

/-- Of reals, a sum of products with sums may be taken the other way round. -/
theorem sum_mul_sum {m n : ℕ} {x : Fin m → EReal} {y : Fin n → EReal} {w : Fin m → Fin n → EReal} (hx : Reals x) (hy : Reals y)
    (hw : ∀ i, Reals (w i)) : ∑ i, x i * ∑ j, y j * w i j = ∑ j, y j * ∑ i, x i * w i j := by
  choose f hf using hx
  choose g hg using hy
  choose k hk using hw
  simp only [hf, hg, hk, ← EReal.coe_mul, coe_sum]
  congr 1
  simp only [Finset.mul_sum]
  rw [Finset.sum_comm]
  exact Finset.sum_congr rfl fun j _ => Finset.sum_congr rfl fun i _ => by ring

/-! ## One query -/

/-- Column `e` of head `h`. -/
def col (h : Fin 8) (e : Fin 32) : Fin 256 := ⟨32 * h.val + e.val, by omega⟩

/-- A sum over the columns is a sum over heads and their columns. -/
theorem sum_cols {α : Type*} [AddCommMonoid α] (f : Fin 256 → α) : ∑ k, f k = ∑ h, ∑ e, f (col h e) := by
  rw [← sum_groups (N := 256) 8 32 rfl (fun h e => f (col h e)) (fun x => by omega) (fun x => by omega)]
  exact Finset.sum_congr rfl fun x _ => congrArg f (Fin.ext (by simp [col]; omega))

/-- A vector's projection, at column `e` of head `h`. -/
def proj (x : Fin 256 → EReal) (w : Fin 256 → Fin 256 → EReal) (h : Fin 8) (e : Fin 32) : EReal := ∑ d, x d * w d (col h e)

/-- The score of a query and a key: their product over the root of the depth. -/
def score (q k : Fin 32 → EReal) : EReal := Ideal.div (∑ e, q e * k e) root

/-- The scores of the statistic keys `sk` for the query `x` in head `h`, −∞ from the valid length `n` on. -/
def statRow (x : Fin 256 → EReal) (sk : Fin 128 → Fin 256 → EReal) (n : BitVec 32) (wq wk : Fin 256 → Fin 256 → EReal) (h : Fin 8) (s : Fin 128) : EReal :=
  if BitVec.slt (BitVec.ofNat 32 s.val) n then score (proj x wq h) (proj (sk s) wk h) else ⊥

/-- The scores of sixteen tokens `tk`. -/
def tokenRow (x : Fin 256 → EReal) (tk : Fin 16 → Fin 256 → EReal) (wq wk : Fin 256 → Fin 256 → EReal) (h : Fin 8) (t : Fin 16) : EReal :=
  score (proj x wq h) (proj (tk t) wk h)

/-- The combination of the values `v` by two weights. -/
def combine (a : Fin 128 → EReal) (b : Fin 128 → Fin 16 → EReal) (v : Fin 128 → Fin 16 → EReal) : EReal := ∑ s, ∑ t, a s * b s t * v s t

/-- The weights of the statistic keys: the softmax of the eight greatest scores, zero elsewhere. -/
def statWeight (x : Fin 256 → EReal) (sk : Fin 128 → Fin 256 → EReal) (n : BitVec 32) (wq wk : Fin 256 → Fin 256 → EReal) (h : Fin 8) (s : Fin 128) : EReal :=
  weight (statRow x sk n wq wk h) 8 s

/-- What the query attends to, at column `e` of head `h`. -/
def attend (x : Fin 256 → EReal) (sk : Fin 128 → Fin 256 → EReal) (tk v : Fin 128 → Fin 16 → Fin 256 → EReal) (n : BitVec 32)
    (wqs wqt wks wkt wv : Fin 256 → Fin 256 → EReal) (h : Fin 8) (e : Fin 32) : EReal :=
  combine (statWeight x sk n wqs wks h) (fun s => softmax (tokenRow x (tk s) wqt wkt h)) fun s t => proj (v s t) wv h e

/-- The result for the query, at column `j`. -/
def answer (x : Fin 256 → EReal) (sk : Fin 128 → Fin 256 → EReal) (tk v : Fin 128 → Fin 16 → Fin 256 → EReal) (n : BitVec 32)
    (wqs wqt wks wkt wv wo : Fin 256 → Fin 256 → EReal) (j : Fin 256) : EReal :=
  ∑ h, ∑ e, attend x sk tk v n wqs wqt wks wkt wv h e * wo (col h e) j

section
variable {x : Fin 256 → EReal} {w w' : Fin 256 → Fin 256 → EReal} (hx : Reals x) (hw : ∀ d, Reals (w d)) (hw' : ∀ d, Reals (w' d))

include hx hw in
/-- A head of reals, projected by reals, is real. -/
theorem proj_real (h : Fin 8) : Reals (proj x w h) := fun e => Reals.sum_mul hx fun d => hw d (col h e)

/-- A score of reals is a real. -/
theorem score_real {q k : Fin 32 → EReal} (hq : Reals q) (hk : Reals k) : ∃ r : ℝ, score q k = (r : EReal) := by
  obtain ⟨r, hr⟩ := Reals.sum_mul hq hk
  exact ⟨_, by rw [score, hr, root, div_real _ sqrt_pos]⟩

include hx hw hw' in
/-- The tokens' scores are reals when all that goes into them is. -/
theorem tokenRow_real {tk : Fin 16 → Fin 256 → EReal} (ht : ∀ t, Reals (tk t)) (h : Fin 8) : Reals (tokenRow x tk w w' h) := fun t =>
  score_real (proj_real hx hw h) (proj_real (ht t) hw' h)

include hx hw hw' in
/-- No score is +∞, -/
theorem statRow_ne_top {sk : Fin 128 → Fin 256 → EReal} (hs : ∀ s, Reals (sk s)) (n : BitVec 32) (h : Fin 8) (s : Fin 128) : statRow x sk n w w' h s ≠ ⊤ := by
  unfold statRow; split
  · obtain ⟨r, hr⟩ := score_real (proj_real hx hw h) (proj_real (hs s) hw' h)
    rw [hr]; exact EReal.coe_ne_top r
  · exact bot_ne_top

include hx hw hw' in
/-- and where a key is valid some score is a real. -/
theorem statRow_ne_bot {sk : Fin 128 → Fin 256 → EReal} (hs : ∀ s, Reals (sk s)) (n : BitVec 32) (hn : BitVec.slt 0#32 n) (h : Fin 8) :
    ∃ s, statRow x sk n w w' h s ≠ ⊥ := by
  refine ⟨0, ?_⟩
  unfold statRow
  rw [if_pos (by exact hn)]
  obtain ⟨r, hr⟩ := score_real (proj_real hx hw h) (proj_real (hs 0) hw' h)
  rw [hr]; exact EReal.coe_ne_bot r

include hx hw hw' in
/-- A token's score from the query taken back through the key projection. -/
theorem tokenRow_back {tk : Fin 16 → Fin 256 → EReal} (ht : ∀ t, Reals (tk t)) (h : Fin 8) (t : Fin 16) :
    (∑ d, tk t d * ∑ e, proj x w h e * w' d (col h e)) * (((Real.sqrt 32)⁻¹ : ℝ) : EReal) = tokenRow x tk w w' h t := by
  rw [tokenRow, score, div_root, sum_mul_sum (ht t) (proj_real hx hw h) fun d e => hw' d (col h e)]
  rfl

include hw in
/-- A column's combination from the values combined before the projection. -/
theorem combine_back {a : Fin 128 → EReal} {b : Fin 128 → Fin 16 → EReal} {v : Fin 128 → Fin 16 → Fin 256 → EReal} (ha : Reals a) (hb : ∀ s, Reals (b s))
    (hv : ∀ s t, Reals (v s t)) (h : Fin 8) (e : Fin 32) :
    ∑ d, (combine a b fun s t => v s t d) * w d (col h e) = combine a b fun s t => proj (v s t) w h e := by
  choose f hf using ha
  choose g hg using hb
  choose k hk using hv
  choose u hu using hw
  simp only [combine, proj, hf, hg, hk, hu, ← EReal.coe_mul, coe_sum]
  congr 1
  simp only [Finset.sum_mul, Finset.mul_sum]
  rw [Finset.sum_comm]
  refine Finset.sum_congr rfl fun s _ => ?_
  rw [Finset.sum_comm]
  exact Finset.sum_congr rfl fun t _ => Finset.sum_congr rfl fun d _ => by ring

end

end Cert.Math

end
-- ==== Proof.Math.Stack.lean ====
/- Eight pieces of one shape put one after another. -/
module

public import Idealize.ShloMosaic.Lib.Pipeline.Value

@[expose] public section

namespace Cert.Math

open Idealize.ShloMosaic

/-- An entry of eight pieces of one shape, each of extent `K` along the axis they are put together on: entry `i` of piece `n`, where the axis
    coordinate is `n * K` and what `i`'s is. -/
theorem stack_at {α : Type} {t s₁ : Shape} (a : Fin t.rank) (f : Fin 8 → (s₁.Idx → α)) (h : Shape.Concatenates [s₁, s₁, s₁, s₁, s₁, s₁, s₁, s₁] t a)
    (hr : s₁.rank = t.rank) (K : Nat) (hK : s₁.size (a.cast hr.symm) = K) (j : t.Idx) (n : Fin 8) (hn : (j a).val / K = n.val)
    (i : s₁.Idx) (hia : (i (a.cast hr.symm)).val = (j a).val % K) (hi : ∀ b : Fin s₁.rank, b.cast hr ≠ a → (i b).val = (j (b.cast hr)).val) :
    concatenate t a [⟨s₁, f 0⟩, ⟨s₁, f 1⟩, ⟨s₁, f 2⟩, ⟨s₁, f 3⟩, ⟨s₁, f 4⟩, ⟨s₁, f 5⟩, ⟨s₁, f 6⟩, ⟨s₁, f 7⟩] h j = f n i := by
  suffices H : ∀ (xs : List ((s : Shape) × (s.Idx → α))) (_ : xs = List.ofFn fun n : Fin 8 => ⟨s₁, f n⟩) (h : Shape.Concatenates (xs.map (·.1)) t a),
      concatenate t a xs h j = f n i from H _ rfl h
  intro xs hx h
  subst hx
  exact concatenate_ofFn_apply a f h hr K hK j n hn i hia hi

end Cert.Math
-- ==== Proof.KernelIdeal.StatEntries.lean ====
/- The statistic stage, entry by entry: its scores and its weights as the mathematics of each query. -/
module

public import proofs.«01_k».proof.Proof.KernelIdeal.Weights
public import proofs.«01_k».proof.Proof.Math.Spec
public import proofs.«01_k».proof.Proof.Math.Stack

@[expose] public section

set_option maxRecDepth 16384

noncomputable section

namespace Cert.KernelIdeal.Run

open Idealize.ShloMosaic Idealize.ShloMosaic.TcCoe Idealize.ShloMosaic.Tactic
open Cert.KernelIdeal.Gen

/-! ## The named constants -/

/-- The scale is 1/√32, -/
theorem scale_eq : Named.named (F := Ideal) κ "inv_sqrt_hd" (φ := .f32) 0x3E3504F3#32 = (((Real.sqrt 32)⁻¹ : ℝ) : EReal) :=
  IdealRules.named_const.ideal_named_scalar _ _ _ _ rfl
/-- the mask is −∞, -/
theorem masked_eq : Named.named (F := Ideal) κ "masked" (φ := .f32) 0xC9742400#32 = (⊥ : EReal) := IdealRules.named_const.ideal_named_scalar _ _ _ _ rfl
/-- and so is what is put in place of an entry that was taken. -/
theorem removed_eq : Named.named (F := Ideal) κ "removed" (φ := .f32) 0xFF61B1E6#32 = (⊥ : EReal) := IdealRules.named_const.ideal_named_scalar _ _ _ _ rfl

/-! ## The projections -/

/-- The statistic queries are projections, -/
theorem pay4_at (x : Vec Ideal S128x256 .f32) (w : Vec Ideal S256x256 .f32) (r : Fin 128) (h : Fin 8) (e : Fin 32) :
    k0_pay4 x w (ix2 r (Math.col h e)) = Math.proj (fun d => x (ix2 r d)) (fun d j => w (ix2 d j)) h e := by
  pointwise [k0_pay4, k0_pay3]
  rfl
/-- so are the token queries, -/
theorem pay5_at (x : Vec Ideal S128x256 .f32) (w : Vec Ideal S256x256 .f32) (r : Fin 128) (h : Fin 8) (e : Fin 32) :
    k0_pay5 x w (ix2 r (Math.col h e)) = Math.proj (fun d => x (ix2 r d)) (fun d j => w (ix2 d j)) h e := by
  pointwise [k0_pay5, k0_pay3]
  rfl
/-- and the statistic keys. -/
theorem pay6_at (x : Vec Ideal S1024x256 .f32) (w : Vec Ideal S256x256 .f32) (r : Fin 1024) (h : Fin 8) (e : Fin 32) :
    k0_pay6 x w (ix2 r (Math.col h e)) = Math.proj (fun d => x (ix2 r d)) (fun d j => w (ix2 d j)) h e := by
  pointwise [k0_pay6]
  rfl
/-- A head of a token query, taken back through the key projection. -/
theorem backHead_at (qt : Vec Ideal S128x256 .f32) (wk : Vec Ideal S256x256 .f32) (h : Fin 8) (r : Fin 128) (d : Fin 256) :
    backHead (F := Ideal) qt wk h (ix3 0 r d) = ∑ e : Fin 32, qt (ix2 r (Math.col h e)) * wk (ix2 d (Math.col h e)) := by
  pointwise [backHead]
  rfl

/-! ## The scores -/

/-- The products of one head's queries and keys. -/
theorem headDot_at (q : Vec Ideal S16x256 .f32) (k : Vec Ideal S128x256 .f32) (h : Fin 8) (r : Fin 16) (s : Fin 128) :
    headDot (F := Ideal) q k h (ix2 r s) = ∑ e : Fin 32, q (ix2 r (Math.col h e)) * k (ix2 s (Math.col h e)) := by
  pointwise [headDot]
  rfl

/-- The products of one sequence, its heads one below the other. -/
theorem blockDot_at (qs : Vec Ideal S128x256 .f32) (ks : Vec Ideal S1024x256 .f32) (b h : Fin 8) (i : Fin 16) (s : Fin 128) :
    blockDot (F := Ideal) qs ks b (ix2 (⟨16 * h.val + i.val, by omega⟩ : Fin 128) s)
      = ∑ e : Fin 32, qs (ix2 (⟨16 * b.val + i.val, by omega⟩ : Fin 128) (Math.col h e)) * ks (ix2 (⟨128 * b.val + s.val, by omega⟩ : Fin 1024) (Math.col h e)) := by
  unfold blockDot
  refine (Math.stack_at (t := S128x128) (s₁ := S16x128) (0 : Fin 2) (fun h : Fin 8 => headDot (F := Ideal) (extractStridedSlice S16x256 ![16 * b.val, 0] qs (slices_q b))
    (extractStridedSlice S128x256 ![128 * b.val, 0] ks (slices_k b)) h) concatenates_S16x128_S16x128_S16x128_S16x128_S16x128_S16x128_S16x128_S16x128_S128x128_d0
    rfl 16 rfl (ix2 (⟨16 * h.val + i.val, by omega⟩ : Fin 128) s) h ?_ (ix2 i s) ?_ ?_).trans ?_
  · simp [ix2]; omega
  · simp [ix2]; omega
  · intro a ha; fin_cases a
    · exact absurd rfl ha
    · rfl
  · rw [headDot_at]
    refine Finset.sum_congr rfl fun e _ => congrArg₂ (· * ·) (congrArg qs (funext fun a => Fin.ext ?_)) (congrArg ks (funext fun a => Fin.ext ?_)) <;>
      fin_cases a <;> simp [ix2]

/-- The scores of one sequence: products over √32, −∞ from the valid length on. -/
theorem blockScore_at (qs : Vec Ideal S128x256 .f32) (ks : Vec Ideal S1024x256 .f32) (n : BitVec 32) (b : Fin 8) (r : Fin 128) (s : Fin 128) :
    blockScore (F := Ideal) qs ks n b (ix2 r s) = if BitVec.slt (BitVec.ofNat 32 s.val) n then Ideal.div (blockDot (F := Ideal) qs ks b (ix2 r s)) Math.root else ⊥ := by
  pointwise [blockScore]
  rw [Math.div_root, scale_eq, masked_eq]
  by_cases h : BitVec.slt (BitVec.ofNat 32 s.val) n <;> simp [Scalar.select, IntOp.cmpi, h]

/-- The scores of all sequences, entry by entry. -/
theorem scores_at (qs : Vec Ideal S128x256 .f32) (ks : Vec Ideal S1024x256 .f32) (n : Fin 8 → BitVec 32) (b h : Fin 8) (i : Fin 16) (s : Fin 128) :
    scores (F := Ideal) qs ks n (ix2 (⟨128 * b.val + (16 * h.val + i.val), by omega⟩ : Fin 1024) s)
      = if BitVec.slt (BitVec.ofNat 32 s.val) (n b) then Math.score (fun e => qs (ix2 (⟨16 * b.val + i.val, by omega⟩ : Fin 128) (Math.col h e)))
          (fun e => ks (ix2 (⟨128 * b.val + s.val, by omega⟩ : Fin 1024) (Math.col h e))) else ⊥ := by
  unfold scores
  refine (Math.stack_at (t := S1024x128) (s₁ := S128x128) (0 : Fin 2) (fun b : Fin 8 => blockScore (F := Ideal) qs ks (n b) b)
    concatenates_S128x128_S128x128_S128x128_S128x128_S128x128_S128x128_S128x128_S128x128_S1024x128_d0
    rfl 128 rfl (ix2 (⟨128 * b.val + (16 * h.val + i.val), by omega⟩ : Fin 1024) s) b ?_ (ix2 (⟨16 * h.val + i.val, by omega⟩ : Fin 128) s) ?_ ?_).trans ?_
  · simp [ix2]; omega
  · simp [ix2]; omega
  · intro a ha; fin_cases a
    · exact absurd rfl ha
    · rfl
  · rw [blockScore_at, blockDot_at]; rfl

/-! ## The rounds and the weights -/

/-- The number that stands where the greatest entry is not. -/
def big : EReal := ((1000000000 : ℝ) : EReal)

/-- No column's number exceeds the stand-in for a column that isn't a maximum. -/
theorem col_le_big (j : Fin 128) : ((j.val : ℝ) : EReal) ≤ big := by
  unfold big
  exact EReal.coe_le_coe_iff.mpr (by have : (j.val : ℝ) < 128 := by exact_mod_cast j.isLt
                                     linarith)

/-- One round takes the leftmost maximum of every row away. -/
theorem round_at (x : Vec Ideal S1024x128 .f32) (r : Fin 1024) :
    (fun j => round (F := Ideal) x (ix2 r j)) = Math.step (fun j => x (ix2 r j)) big := by
  funext j
  pointwise [round, rowMax, spread, cols]
  simp only [Math.fold_max, Math.fold_min, Math.ofInt_col, Math.ofBits_big, removed_eq]
  unfold Math.step big
  congr!

/-- Eight rounds take the eight entries that come first. -/
theorem rounds_at (x : Vec Ideal S1024x128 .f32) (r : Fin 1024) :
    (fun j => round (F := Ideal) (round (round (round (round (round (round (round x))))))) (ix2 r j)) = Math.taken (fun j => x (ix2 r j)) 8 := by
  rw [round_at, round_at, round_at, round_at, round_at, round_at, round_at, round_at]
  conv_lhs => rw [← Math.taken_zero (fun j => x (ix2 r j))]
  simp only [Math.step_taken _ big col_le_big]

/-- The weights are the softmax of the eight greatest scores of the row. -/
theorem weights_at (x : Vec Ideal S1024x128 .f32) (r : Fin 1024) (j : Fin 128) (ht : ∀ j, x (ix2 r j) ≠ ⊤) (hb : ∃ j, x (ix2 r j) ≠ ⊥) :
    weights (F := Ideal) x (ix2 r j) = Math.weight (fun j => x (ix2 r j)) 8 j := by
  have hp : ∀ j, picked (F := Ideal) x (ix2 r j) = Ideal.exp (Math.kept (fun j => x (ix2 r j)) 8 j - Finset.univ.sup (Math.kept (fun j => x (ix2 r j)) 8)) := fun j => by
    rw [← Math.exp_taken (fun j => x (ix2 r j)) 8 (by norm_num) ht hb j, ← rounds_at]
    pointwise [picked, rowMax, spread]
    simp only [Math.fold_max]
  pointwise [weights, spread]
  simp only [hp]
  rfl

end Cert.KernelIdeal.Run

end
-- ==== Proof.KernelIdeal.TokenEntries.lean ====
/- The token stage, entry by entry, as the mathematics of each query. -/
module

public import proofs.«01_k».proof.Proof.KernelIdeal.StatEntries
public import proofs.«01_k».proof.Proof.Math.Spec
public import proofs.«01_k».proof.Proof.Math.Stack
public import Idealize.ShloMosaic.Lib.Pointwise
public import Idealize.ShloMosaic.Lib.Pipeline.Value

@[expose] public section

set_option maxRecDepth 16384

noncomputable section

namespace Cert.KernelIdeal.Run

open Idealize.ShloMosaic Idealize.ShloMosaic.TcCoe Idealize.ShloMosaic.Tactic
open Cert.KernelIdeal.Gen

/-- The cuts of one head's rows and columns fit. -/
theorem slices_y (h : Fin 8) : S128x256.Slices ![16 * h.val, 0] S16x256 := by fin_cases h <;> decide
theorem slices_wv (h : Fin 8) : S256x256.Slices ![0, 32 * h.val] S256x32 := by fin_cases h <;> decide

/-- The values combined before the projection, every head's rows one after another's. -/
def mixed {F : FTy → Type} [FloatOps F] [Named F] (q : Vec F S8x16x256 .f32) (w : Vec F S128x128 .f32) (tk v : Vec F S1x128x16x256 .f32) : FVec F S128x256 .f32 :=
  k0_pay73 (k0_pay71 q) w (k0_pay72 tk) v

/-- One head's rows, projected onto its columns. -/
def headOut {F : FTy → Type} [FloatOps F] (y : FVec F S128x256 .f32) (wv : Vec F S256x256 .f32) (h : Fin 8) : FVec F S16x32 .f32 :=
  matmul dot_S16x256_S256x32_S16x32_1_0_0_1_n_n none (extractStridedSlice S16x256 ![16 * h.val, 0] y (slices_y h))
    (extractStridedSlice S256x32 ![0, 32 * h.val] wv (slices_wv h)) (constant S16x32 .f32 0x00000000#32)

/-- The heads' columns side by side. -/
def heads {F : FTy → Type} [FloatOps F] (y : FVec F S128x256 .f32) (wv : Vec F S256x256 .f32) : FVec F S16x256 .f32 :=
  concatenate S16x256 1 [⟨S16x32, headOut y wv 0⟩, ⟨S16x32, headOut y wv 1⟩, ⟨S16x32, headOut y wv 2⟩, ⟨S16x32, headOut y wv 3⟩,
    ⟨S16x32, headOut y wv 4⟩, ⟨S16x32, headOut y wv 5⟩, ⟨S16x32, headOut y wv 6⟩, ⟨S16x32, headOut y wv 7⟩]
    concatenates_S16x32_S16x32_S16x32_S16x32_S16x32_S16x32_S16x32_S16x32_S16x256_d1

/-- What a token point writes is the heads side by side, through the output projection. -/
theorem tokOut_eq {F : FTy → Type} [FloatOps F] [Named F] (q : Vec F S8x16x256 .f32) (w : Vec F S128x128 .f32) (tk v : Vec F S1x128x16x256 .f32) (wv wo : Vec F S256x256 .f32) :
    tokOut q w tk v wv wo = shapeCast S1x16x256 (matmul dot_S16x256_S256x256_S16x256_1_0_0_1_n_n none (heads (mixed q w tk v) wv) wo (constant S16x256 .f32 0x00000000#32))
      shapeCasts_S16x256_S1x16x256 := rfl

/-- One head's mixed values, projected. -/
theorem headOut_at (y : Vec Ideal S128x256 .f32) (wv : Vec Ideal S256x256 .f32) (h : Fin 8) (i : Fin 16) (e : Fin 32) :
    headOut (F := Ideal) y wv h (ix2 i e) = ∑ d : Fin 256, y (ix2 (⟨16 * h.val + i.val, by omega⟩ : Fin 128) d) * wv (ix2 d (Math.col h e)) := by
  pointwise [headOut]
  rfl

/-- The heads side by side, entry by entry. -/
theorem heads_at (y : Vec Ideal S128x256 .f32) (wv : Vec Ideal S256x256 .f32) (h : Fin 8) (i : Fin 16) (e : Fin 32) :
    heads (F := Ideal) y wv (ix2 i (Math.col h e)) = ∑ d : Fin 256, y (ix2 (⟨16 * h.val + i.val, by omega⟩ : Fin 128) d) * wv (ix2 d (Math.col h e)) := by
  unfold heads
  refine (Math.stack_at (t := S16x256) (s₁ := S16x32) (1 : Fin 2) (fun h : Fin 8 => headOut (F := Ideal) y wv h)
    concatenates_S16x32_S16x32_S16x32_S16x32_S16x32_S16x32_S16x32_S16x32_S16x256_d1
    rfl 32 rfl (ix2 i (Math.col h e)) h ?_ (ix2 i e) ?_ ?_).trans (headOut_at y wv h i e)
  · simp [ix2, Math.col]; omega
  · simp [ix2, Math.col]; omega
  · intro a ha; fin_cases a
    · rfl
    · exact absurd rfl ha

/-- What a token point writes, entry by entry. -/
theorem tokOut_at (q : Vec Ideal S8x16x256 .f32) (w : Vec Ideal S128x128 .f32) (tk v : Vec Ideal S1x128x16x256 .f32) (wv wo : Vec Ideal S256x256 .f32) (i : Fin 16) (j : Fin 256) :
    tokOut (F := Ideal) q w tk v wv wo (ix3 0 i j)
      = ∑ h, ∑ e, (∑ d : Fin 256, mixed (F := Ideal) q w tk v (ix2 (⟨16 * h.val + i.val, by omega⟩ : Fin 128) d) * wv (ix2 d (Math.col h e))) * wo (ix2 (Math.col h e) j) := by
  have hdot : ∀ y : FVec Ideal S16x256 .f32, shapeCast S1x16x256 (matmul (F := Ideal) (φ₁ := .f32) (φ₂ := .f32) dot_S16x256_S256x256_S16x256_1_0_0_1_n_n none y wo (constant S16x256 .f32 0x00000000#32))
      shapeCasts_S16x256_S1x16x256 (ix3 0 i j) = ∑ k : Fin 256, y (ix2 i k) * wo (ix2 k j) := fun y => by pointwise []
  rw [tokOut_eq, hdot, Math.sum_cols]
  exact Finset.sum_congr rfl fun h _ => Finset.sum_congr rfl fun e _ => by rw [heads_at]

/-- The mixed values: weighted by the statistic weight and by the tokens' softmax, summed over both. -/
theorem mixed_at (q : Vec Ideal S8x16x256 .f32) (w : Vec Ideal S128x128 .f32) (tk v : Vec Ideal S1x128x16x256 .f32) (h : Fin 8) (i : Fin 16) (d : Fin 256) :
    mixed (F := Ideal) q w tk v (ix2 (⟨16 * h.val + i.val, by omega⟩ : Fin 128) d)
      = Math.combine (fun s => w (ix2 (⟨16 * h.val + i.val, by omega⟩ : Fin 128) s))
          (fun s => Math.softmax fun t => (∑ d, tk (ix4 0 s t d) * q (ix3 h i d)) * (((Real.sqrt 32)⁻¹ : ℝ) : EReal)) (fun s t => v (ix4 0 s t d)) := by
  pointwise [mixed, k0_pay73, k0_pay71, k0_pay72]
  simp only [Math.fold_max, scale_eq]
  have e1 : (16 * h.val + i.val) / 16 = h.val := by omega
  have e2 : (16 * h.val + i.val) % 16 = i.val := by omega
  have e3 : ∀ (a : ℕ) (b : Fin 16), (a * 16 + b.val) / 16 = a := fun a b => by omega
  simp only [e1, e2, e3, Fin.eta]
  unfold Math.combine
  rw [← Math.sum_groups (N := 2048) 128 16 rfl (fun s t => w (ix2 (⟨16 * h.val + i.val, by omega⟩ : Fin 128) s)
    * Math.softmax (fun t => (∑ d, tk (ix4 0 s t d) * q (ix3 h i d)) * (((Real.sqrt 32)⁻¹ : ℝ) : EReal)) t * v (ix4 0 s t d)) (fun x => by omega) (fun x => by omega)]
  refine Finset.sum_congr rfl fun x _ => congrArg (· * v _) ?_
  rw [mul_comm]
  rfl

end Cert.KernelIdeal.Run

end
-- ==== Proof.KernelIdeal.Answer.lean ====
/- The result's array, entry by entry: the answer to each query, where the arguments are reals and every sequence has a valid key. -/
module

public import proofs.«01_k».proof.Proof.KernelIdeal.Blocks
public import proofs.«01_k».proof.Proof.KernelIdeal.StatEntries
public import proofs.«01_k».proof.Proof.KernelIdeal.TokenEntries

@[expose] public section

set_option maxRecDepth 16384

noncomputable section

namespace Cert.KernelIdeal.Run

open Idealize.ShloMosaic Idealize.ShloMosaic.TcCoe Idealize.ShloMosaic.Tactic
open Cert.KernelIdeal.Gen

/-! ## The arguments, as the mathematics reads them -/

/-- Query `i` of sequence `b`, -/
def queryOf (x : Vec Ideal S8x16x256 .f32) (b : Fin 8) (i : Fin 16) (d : Fin 256) : EReal := x (ix3 b i d)
/-- the statistic keys of sequence `b`, -/
def keysOf (x : Vec Ideal S8x128x256 .f32) (b : Fin 8) (s : Fin 128) (d : Fin 256) : EReal := x (ix3 b s d)
/-- the last sixteen tokens of every statistic key of sequence `b`, -/
def lastOf (x : Vec Ideal S1024x64x256 .f32) (b : Fin 8) (s : Fin 128) (t : Fin 16) (d : Fin 256) : EReal :=
  x (ix3 (⟨128 * b.val + s.val, by omega⟩ : Fin 1024) (⟨48 + t.val, by omega⟩ : Fin 64) d)
/-- and a matrix. -/
def matOf (x : Vec Ideal S256x256 .f32) (d j : Fin 256) : EReal := x (ix2 d j)

/-- The answer to query `i` of sequence `b` from the eleven arguments, at column `j`. -/
def answerOf (x : Vec Ideal S8x16x256 .f32) (sk : Vec Ideal S8x128x256 .f32) (tk v : Vec Ideal S1024x64x256 .f32) (n : Vec Ideal S8 .i32)
    (wqs wqt wks wkt wv wo : Vec Ideal S256x256 .f32) (b : Fin 8) (i : Fin 16) (j : Fin 256) : EReal :=
  Math.answer (queryOf x b i) (keysOf sk b) (lastOf tk b) (lastOf v b) (n (ix1 b)) (matOf wqs) (matOf wqt) (matOf wks) (matOf wkt) (matOf wv) (matOf wo) j

section Stages
variable (m : (ℓ : Loc nD τ sig) → Buf (Elt Ideal) ℓ) (c : Dev nD)

/-- The stored weights of query `i` of sequence `b` in head `h`. -/
theorem wV_at (b h : Fin 8) (i : Fin 16) (s : Fin 128)
    (hx : Math.Reals (queryOf (m ((c.tc : Thread nD τ).loc main_arg0)) b i)) (hk : ∀ s, Math.Reals (keysOf (m ((c.tc : Thread nD τ).loc main_arg1)) b s))
    (hn : BitVec.slt 0#32 ((m ((c.tc : Thread nD τ).loc main_arg4) : Vec Ideal S8 .i32) (ix1 b)))
    (hq : ∀ d, Math.Reals (matOf (m ((c.tc : Thread nD τ).loc main_arg5)) d)) (hw : ∀ d, Math.Reals (matOf (m ((c.tc : Thread nD τ).loc main_arg7)) d)) :
    wV m c (ix2 (⟨128 * b.val + (16 * h.val + i.val), by omega⟩ : Fin 1024) s)
      = Math.statWeight (queryOf (m ((c.tc : Thread nD τ).loc main_arg0)) b i) (keysOf (m ((c.tc : Thread nD τ).loc main_arg1)) b)
          ((m ((c.tc : Thread nD τ).loc main_arg4) : Vec Ideal S8 .i32) (ix1 b)) (matOf (m ((c.tc : Thread nD τ).loc main_arg5)))
          (matOf (m ((c.tc : Thread nD τ).loc main_arg7))) h s := by
  have e : (fun s => scores (F := Ideal) (k0_pay4 (iblk m c 1 first) (iblk m c 3 first)) (k0_pay6 (iblk m c 2 first) (iblk m c 5 first))
        (fun b => (iblk m c 0 first : Vec Ideal S1x8 .i32) (ix2 0 b)) (ix2 (⟨128 * b.val + (16 * h.val + i.val), by omega⟩ : Fin 1024) s))
      = Math.statRow (queryOf (m ((c.tc : Thread nD τ).loc main_arg0)) b i) (keysOf (m ((c.tc : Thread nD τ).loc main_arg1)) b)
          ((m ((c.tc : Thread nD τ).loc main_arg4) : Vec Ideal S8 .i32) (ix1 b)) (matOf (m ((c.tc : Thread nD τ).loc main_arg5)))
          (matOf (m ((c.tc : Thread nD τ).loc main_arg7))) h := by
    funext s
    rw [scores_at, lens_at, block3, block5]
    simp only [pay4_at, pay6_at, queries_at, keys_at]
    rfl
  have ht : ∀ s, scores (F := Ideal) (k0_pay4 (iblk m c 1 first) (iblk m c 3 first)) (k0_pay6 (iblk m c 2 first) (iblk m c 5 first))
        (fun b => (iblk m c 0 first : Vec Ideal S1x8 .i32) (ix2 0 b)) (ix2 (⟨128 * b.val + (16 * h.val + i.val), by omega⟩ : Fin 1024) s) ≠ ⊤ := fun s =>
    (congrFun e s).trans_ne (Math.statRow_ne_top hx hq hw hk _ h s)
  have hb : ∃ s, scores (F := Ideal) (k0_pay4 (iblk m c 1 first) (iblk m c 3 first)) (k0_pay6 (iblk m c 2 first) (iblk m c 5 first))
        (fun b => (iblk m c 0 first : Vec Ideal S1x8 .i32) (ix2 0 b)) (ix2 (⟨128 * b.val + (16 * h.val + i.val), by omega⟩ : Fin 1024) s) ≠ ⊥ :=
    (Math.statRow_ne_bot hx hq hw hk _ hn h).imp fun s hs => (congrFun e s).trans_ne hs
  rw [wV_eq, weights_at _ _ _ ht hb, e]
  rfl

/-- The stored queries, taken back through the key projection. -/
theorem qkV_at (b h : Fin 8) (i : Fin 16) (d : Fin 256) :
    qkV m c (ix3 h (⟨16 * b.val + i.val, by omega⟩ : Fin 128) d)
      = ∑ e, Math.proj (queryOf (m ((c.tc : Thread nD τ).loc main_arg0)) b i) (matOf (m ((c.tc : Thread nD τ).loc main_arg6))) h e
          * matOf (m ((c.tc : Thread nD τ).loc main_arg8)) d (Math.col h e) := by
  rw [qkV_eq, backPieces_at, backHead_at, block4, block6]
  simp only [pay5_at, queries_at]
  rfl

/-- What the token point of sequence `b` writes. -/
theorem outV_at (t : Fin cfg0.N) (b : Fin 8) (htb : t.val = b.val + 1) (i : Fin 16) (j : Fin 256)
    (hx : Math.Reals (queryOf (m ((c.tc : Thread nD τ).loc main_arg0)) b i)) (hk : ∀ s, Math.Reals (keysOf (m ((c.tc : Thread nD τ).loc main_arg1)) b s))
    (htk : ∀ s t, Math.Reals (lastOf (m ((c.tc : Thread nD τ).loc main_arg2)) b s t)) (hv : ∀ s t, Math.Reals (lastOf (m ((c.tc : Thread nD τ).loc main_arg3)) b s t))
    (hn : BitVec.slt 0#32 ((m ((c.tc : Thread nD τ).loc main_arg4) : Vec Ideal S8 .i32) (ix1 b)))
    (hqs : ∀ d, Math.Reals (matOf (m ((c.tc : Thread nD τ).loc main_arg5)) d)) (hqt : ∀ d, Math.Reals (matOf (m ((c.tc : Thread nD τ).loc main_arg6)) d))
    (hks : ∀ d, Math.Reals (matOf (m ((c.tc : Thread nD τ).loc main_arg7)) d)) (hkt : ∀ d, Math.Reals (matOf (m ((c.tc : Thread nD τ).loc main_arg8)) d))
    (hwv : ∀ d, Math.Reals (matOf (m ((c.tc : Thread nD τ).loc main_arg9)) d)) :
    outV m c t (ix3 0 i j) = answerOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) b i j := by
  have hb : Ring.bk 8 (t.val - 1) = b := Fin.ext (by show (t.val - 1) % 8 = b.val; omega)
  unfold outV outBlock answerOf Math.answer
  rw [hb, block7, block8, V_main_arg2, V_main_arg3, tokOut_at]
  refine Finset.sum_congr rfl fun h _ => Finset.sum_congr rfl fun e _ => congrArg (· * matOf (m ((c.tc : Thread nD τ).loc main_arg10)) (Math.col h e) j) ?_
  have hrow : ∀ s, (fun t' => (∑ d, lastOf (m ((c.tc : Thread nD τ).loc main_arg2)) b s t' d * qkRows (qkV m c) b (ix3 h i d)) * (((Real.sqrt 32)⁻¹ : ℝ) : EReal))
      = Math.tokenRow (queryOf (m ((c.tc : Thread nD τ).loc main_arg0)) b i) (lastOf (m ((c.tc : Thread nD τ).loc main_arg2)) b s)
          (matOf (m ((c.tc : Thread nD τ).loc main_arg6))) (matOf (m ((c.tc : Thread nD τ).loc main_arg8))) h := fun s => by
    funext t'
    rw [← Math.tokenRow_back hx hqt hkt (htk s) h t']
    simp only [qkRows_at, qkV_at]
  refine Eq.trans ?_ (Math.combine_back hwv ?_ ?_ hv h e)
  · simp only [mixed_at, wRows_at, wV_at m c b h i _ hx hk hn hqs hks, slotRows_at]
    exact Finset.sum_congr rfl fun d _ => congrArg (fun w => Math.combine _ w _ * _) (funext fun s => congrArg Math.softmax (hrow s))
  · obtain ⟨a, ha⟩ := Math.weight_real _ 8 (by norm_num) (Math.statRow_ne_top hx hqs hks hk _ h) (Math.statRow_ne_bot hx hqs hks hk _ hn h)
    exact fun s => ⟨a s, ha s⟩
  · intro s
    have hr := Math.tokenRow_real hx hqt hkt (htk s) h
    obtain ⟨a, ha⟩ := Math.softmax_real (Math.tokenRow (queryOf (m ((c.tc : Thread nD τ).loc main_arg0)) b i) (lastOf (m ((c.tc : Thread nD τ).loc main_arg2)) b s)
        (matOf (m ((c.tc : Thread nD τ).loc main_arg6))) (matOf (m ((c.tc : Thread nD τ).loc main_arg8))) h) (fun t => by obtain ⟨r, e⟩ := hr t; rw [e]; exact EReal.coe_ne_top r) ⟨0, by obtain ⟨r, e⟩ := hr 0; rw [e]; exact EReal.coe_ne_bot r⟩
    exact fun t => ⟨a t, ha t⟩

end Stages

end Cert.KernelIdeal.Run

end
-- ==== Proof.Reference.Stages.lean ====
/- The reference as functions of whole arrays, one a step: heads, scores, selection, softmax, combination. -/
module

public import proofs.«01_k».proof.Proof.Gen.ReferenceIdeal.Run

@[expose] public section

set_option maxRecDepth 16384

noncomputable section

namespace Cert.ReferenceIdeal.Run

open Idealize.ShloMosaic Idealize.ShloMosaic.TcCoe
open Cert.ReferenceIdeal.Gen

variable {F : FTy → Type} [FloatOps F]

/-- The projected queries, a plane a sequence and head. -/
def queryHeads (x : Vec F S8x16x256 .f32) (w : Vec F S256x256 .f32) : Vec F S64x16x32 .f32 :=
  shapeCast _ (transpose S8x8x16x32 [0, 2, 1, 3] (shapeCast _ (Host.dotGeneral dot_S8x16x256_S256x256_S8x16x256_2_0_01_1_n_n none x w)
    shapeCasts_S8x16x256_S8x16x8x32) transposes_S8x16x8x32_S8x8x16x32_0_2_1_3) shapeCasts_S8x8x16x32_S64x16x32

/-- The projected statistic keys, likewise. -/
def keyHeads (x : Vec F S8x128x256 .f32) (w : Vec F S256x256 .f32) : Vec F S64x128x32 .f32 :=
  shapeCast _ (transpose S8x8x128x32 [0, 2, 1, 3] (shapeCast _ (Host.dotGeneral dot_S8x128x256_S256x256_S8x128x256_2_0_01_1_n_n none x w)
    shapeCasts_S8x128x256_S8x128x8x32) transposes_S8x128x8x32_S8x8x128x32_0_2_1_3) shapeCasts_S8x8x128x32_S64x128x32

/-- The projected tokens, by sequence, head and statistic key. -/
def tokenHeads (x : Vec F S1024x64x256 .f32) (w : Vec F S256x256 .f32) : Vec F S8x8x128x64x32 .f32 :=
  transpose S8x8x128x64x32 [0, 2, 1, 3, 4] (shapeCast _ (shapeCast S8192x64x32 (transpose S1024x8x64x32 [0, 2, 1, 3]
    (shapeCast _ (Host.dotGeneral dot_S1024x64x256_S256x256_S1024x64x256_2_0_01_1_n_n none x w) shapeCasts_S1024x64x256_S1024x64x8x32)
    transposes_S1024x64x8x32_S1024x8x64x32_0_2_1_3) shapeCasts_S1024x8x64x32_S8192x64x32) shapeCasts_S8192x64x32_S8x128x8x64x32)
    transposes_S8x128x8x64x32_S8x8x128x64x32_0_2_1_3_4

/-- The root of the depth of a head. -/
def root : Vec F S_ .f32 := Host.sqrt (constant S_ .f32 0x42000000#32)

/-- The scores of the statistic keys, −∞ from a sequence's valid length on. -/
def statScores (q : Vec F S64x16x32 .f32) (k : Vec F S64x128x32 .f32) (n : Vec F S8 .i32) : Vec F S64x16x128 .f32 :=
  shapeCast _ (select (cmpi .slt (broadcastInDim S1024x128 ![0, 1] bcast_S1x128_S1024x128_0_1 (broadcastInDim S1x128 ![1] bcast_S128_S1x128_1 (iotaInDim S128 32 0)))
      (broadcastInDim S1024x128 ![0, 1] bcast_S1024x1_S1024x128_0_1 (broadcastInDim S1024x1 ![0] bcast_S1024_S1024x1_0
        (shapeCast _ (broadcastInDim S8x128 ![0] bcast_S8_S8x128_0 n) shapeCasts_S8x128_S1024))))
    (shapeCast _ (Host.divf (Host.dotGeneral dot_S64x16x32_S64x32x128_S64x16x128_2_1_1_2_0_0 none q (transpose S64x32x128 [0, 2, 1] k transposes_S64x128x32_S64x32x128_0_2_1))
      (broadcastInDim S64x16x128 ![] bcast_S_S64x16x128 root)) shapeCasts_S64x16x128_S1024x128)
    (broadcastInDim S1024x128 ![] bcast_S_S1024x128 (id (constant S_ .f32 0xFF800000#32)))) shapeCasts_S1024x128_S64x16x128

/-- The greatest eight entries of every row, -/
def topValues (x : Vec F S64x16x128 .f32) : Vec F S64x16x8 .f32 := (Host.topK S64x16x8 2 (FloatOps.cmpfTotal .gt) x sliceFits_S64x16x128_S64x16x8).1
/-- and where they stand. -/
def topPlaces (x : Vec F S64x16x128 .f32) : Vec F S64x16x8 .i32 := (Host.topK S64x16x8 2 (FloatOps.cmpfTotal .gt) x sliceFits_S64x16x128_S64x16x8).2

/-- The plane and row that each of them is put back at. -/
def planes : Vec F S64x1x1 .i32 :=
  select (cmpi .slt (broadcastInDim S64x1x1 ![0] bcast_S64_S64x1x1_0 (iotaInDim S64 32 0)) (broadcastInDim S64x1x1 ![] bcast_S_S64x1x1 (constantI S_ 32 0#32)))
    (addi (broadcastInDim S64x1x1 ![0] bcast_S64_S64x1x1_0 (iotaInDim S64 32 0)) (broadcastInDim S64x1x1 ![] bcast_S_S64x1x1 (constantI S_ 32 64#32)))
    (broadcastInDim S64x1x1 ![0] bcast_S64_S64x1x1_0 (iotaInDim S64 32 0))
def rows : Vec F S1x16x1 .i32 :=
  select (cmpi .slt (broadcastInDim S1x16x1 ![1] bcast_S16_S1x16x1_1 (iotaInDim S16 32 0)) (broadcastInDim S1x16x1 ![] bcast_S_S1x16x1 (constantI S_ 32 0#32)))
    (addi (broadcastInDim S1x16x1 ![1] bcast_S16_S1x16x1_1 (iotaInDim S16 32 0)) (broadcastInDim S1x16x1 ![] bcast_S_S1x16x1 (constantI S_ 32 16#32)))
    (broadcastInDim S1x16x1 ![1] bcast_S16_S1x16x1_1 (iotaInDim S16 32 0))
/-- The column, a place counted from the end where it is negative. -/
def columns (j : Vec F S64x16x8 .i32) : Vec F S64x16x8 .i32 :=
  select (cmpi .slt j (broadcastInDim S64x16x8 ![] bcast_S_S64x16x8 (constantI S_ 32 0#32)))
    (addi j (broadcastInDim S64x16x8 ![] bcast_S_S64x16x8 (constantI S_ 32 128#32))) j

/-- The three coordinates side by side. -/
def places (j : Vec F S64x16x8 .i32) : Vec F S64x16x8x3 .i32 :=
  concatenate S64x16x8x3 3 [⟨S64x16x8x1, (broadcastInDim S64x16x8x1 ![0, 1, 2] bcast_S64x16x8_S64x16x8x1_0_1_2
      (broadcastInDim S64x16x8 ![0, 1, 2] bcast_S64x1x1_S64x16x8_0_1_2 (planes (F := F))) : (⟨S64x16x8x1, .i32⟩ : BufTy).Contents (Elt F))⟩,
    ⟨S64x16x8x1, (broadcastInDim S64x16x8x1 ![0, 1, 2] bcast_S64x16x8_S64x16x8x1_0_1_2
      (broadcastInDim S64x16x8 ![0, 1, 2] bcast_S1x16x1_S64x16x8_0_1_2 (rows (F := F))) : (⟨S64x16x8x1, .i32⟩ : BufTy).Contents (Elt F))⟩,
    ⟨S64x16x8x1, (broadcastInDim S64x16x8x1 ![0, 1, 2] bcast_S64x16x8_S64x16x8x1_0_1_2 (columns (F := F) j) : (⟨S64x16x8x1, .i32⟩ : BufTy).Contents (Elt F))⟩]
    concatenates_S64x16x8x1_S64x16x8x1_S64x16x8x1_S64x16x8x3_d3

/-- The greatest eight entries of every row in their places, −∞ elsewhere. -/
def selected (x : Vec F S64x16x128 .f32) : Vec F S64x16x128 .f32 :=
  Host.scatter scatter_S64x16x128_S64x16x8x3_S64x16x8_n_012_012_3 (fun _ b => b) (broadcastInDim S64x16x128 ![] bcast_S_S64x16x128 (constant S_ .f32 0xFF800000#32))
    (places (F := F) (topPlaces x)) (topValues x)

/-- The exponentials of a row's entries over its greatest, -/
def statExp (x : Vec F S64x16x128 .f32) : Vec F S64x16x128 .f32 :=
  Host.exp (subf x (broadcastInDim S64x16x128 ![0, 1, 2] bcast_S64x16x1_S64x16x128_0_1_2 (broadcastInDim S64x16x1 ![0, 1] bcast_S64x16_S64x16x1_0_1
    (maximumf (broadcastInDim S64x16 ![] bcast_S_S64x16 (constant S_ .f32 0xFF800000#32))
      (Host.reduce FloatOps.maximumf x (constant S_ .f32 0xFF800000#32) reducesTo_S64x16x128_S64x16_d2 h_S_)))))
/-- and their shares of the row's sum. -/
def statSoftmax (x : Vec F S64x16x128 .f32) : Vec F S64x16x128 .f32 :=
  Host.divf (statExp x) (broadcastInDim S64x16x128 ![0, 1, 2] bcast_S64x16x1_S64x16x128_0_1_2 (broadcastInDim S64x16x1 ![0, 1] bcast_S64x16_S64x16x1_0_1
    (Host.reduceAdd (statExp x) (constant S_ .f32 0x00000000#32) reducesTo_S64x16x128_S64x16_d2 h_S_)))

/-- The scores of the tokens. -/
def tokenScores (q : Vec F S64x16x32 .f32) (k : Vec F S8x8x128x64x32 .f32) : Vec F S8192x16x64 .f32 :=
  Host.divf (Host.dotGeneral dot_S8192x16x32_S8192x32x64_S8192x16x64_2_1_1_2_0_0 none
      (shapeCast _ (broadcastInDim S64x128x16x32 ![0, 2, 3] bcast_S64x16x32_S64x128x16x32_0_2_3 q) shapeCasts_S64x128x16x32_S8192x16x32)
      (transpose S8192x32x64 [0, 2, 1] (shapeCast S8192x64x32 k shapeCasts_S8x8x128x64x32_S8192x64x32) transposes_S8192x64x32_S8192x32x64_0_2_1))
    (broadcastInDim S8192x16x64 ![] bcast_S_S8192x16x64 root)

/-- The scores of the last sixteen tokens in their places, −∞ elsewhere. -/
def lastTokens (x : Vec F S8192x16x64 .f32) : Vec F S8192x16x64 .f32 :=
  Host.scatter scatter_S8192x16x64_S1_S8192x16x16_012_n_2_0 (fun _ b => b) (broadcastInDim S8192x16x64 ![] bcast_S_S8192x16x64 (constant S_ .f32 0xFF800000#32))
    (broadcastInDim S1 ![] bcast_S_S1 (constantI S_ 32 48#32)) (extractStridedSlice S8192x16x16 ![0, 0, 48] x slices_S8192x16x64_S8192x16x16_0_0_48)

/-- The exponentials of a row's entries over its greatest, -/
def tokenExp (x : Vec F S8192x16x64 .f32) : Vec F S8192x16x64 .f32 :=
  Host.exp (subf x (broadcastInDim S8192x16x64 ![0, 1, 2] bcast_S8192x16x1_S8192x16x64_0_1_2 (broadcastInDim S8192x16x1 ![0, 1] bcast_S8192x16_S8192x16x1_0_1
    (maximumf (broadcastInDim S8192x16 ![] bcast_S_S8192x16 (constant S_ .f32 0xFF800000#32))
      (Host.reduce FloatOps.maximumf x (constant S_ .f32 0xFF800000#32) reducesTo_S8192x16x64_S8192x16_d2 h_S_)))))
/-- and their shares of the row's sum. -/
def tokenSoftmax (x : Vec F S8192x16x64 .f32) : Vec F S8192x16x64 .f32 :=
  Host.divf (tokenExp x) (broadcastInDim S8192x16x64 ![0, 1, 2] bcast_S8192x16x1_S8192x16x64_0_1_2 (broadcastInDim S8192x16x1 ![0, 1] bcast_S8192x16_S8192x16x1_0_1
    (Host.reduceAdd (tokenExp x) (constant S_ .f32 0x00000000#32) reducesTo_S8192x16x64_S8192x16_d2 h_S_)))

/-- The values combined by the product of the two weights, every head's in its columns. -/
def combined (w : Vec F S64x16x128 .f32) (a : Vec F S8192x16x64 .f32) (v : Vec F S8x8x128x64x32 .f32) : Vec F S8x16x256 .f32 :=
  shapeCast _ (transpose S8x16x8x32 [0, 2, 1, 3] (shapeCast _ (Host.dotGeneral dot_S64x16x8192_S64x8192x32_S64x16x32_2_1_1_2_0_0 none
      (shapeCast _ (mulf (broadcastInDim S64x16x128x64 ![0, 1, 2, 3] bcast_S64x16x128x1_S64x16x128x64_0_1_2_3 (broadcastInDim S64x16x128x1 ![0, 1, 2] bcast_S64x16x128_S64x16x128x1_0_1_2 w))
          (transpose S64x16x128x64 [0, 2, 1, 3] (shapeCast _ a shapeCasts_S8192x16x64_S64x128x16x64) transposes_S64x128x16x64_S64x16x128x64_0_2_1_3))
        shapeCasts_S64x16x128x64_S64x16x8192)
      (shapeCast _ v shapeCasts_S8x8x128x64x32_S64x8192x32)) shapeCasts_S64x16x32_S8x8x16x32) transposes_S8x8x16x32_S8x16x8x32_0_2_1_3) shapeCasts_S8x16x8x32_S8x16x256

/-- The reference's result. -/
def result (x : Vec F S8x16x256 .f32) (sk : Vec F S8x128x256 .f32) (tk v : Vec F S1024x64x256 .f32) (n : Vec F S8 .i32) (wqs wqt wks wkt wv wo : Vec F S256x256 .f32) :
    Vec F S8x16x256 .f32 :=
  Host.dotGeneral dot_S8x16x256_S256x256_S8x16x256_2_0_01_1_n_n none
    (combined (statSoftmax (selected (statScores (queryHeads x wqs) (keyHeads sk wks) n)))
      (tokenSoftmax (lastTokens (tokenScores (queryHeads x wqt) (tokenHeads tk wkt)))) (tokenHeads v wv)) wo

/-- The reference's run leaves it. -/
theorem res_eq (m : (ℓ : Loc nD τ sig) → Buf (Elt F) ℓ) (c : Dev nD) :
    Value.res_main_v112 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) := by
  unfold Value.res_main_v112
  rfl

end Cert.ReferenceIdeal.Run

end
-- ==== Proof.Reference.Select.lean ====
/- The reference's selection of the eight greatest entries of a row, and of the last sixteen tokens, entry by entry. -/
module

public import proofs.«01_k».proof.Proof.Reference.Stages
public import proofs.«01_k».proof.Proof.Math.Softmax
public import Idealize.ShloMosaic.Lib.Pointwise
public import Idealize.ShloMosaic.Lib.Routing.OpsSet
public import Idealize.ShloMosaic.Lib.Routing.OpsPair

@[expose] public section

set_option maxRecDepth 16384

noncomputable section

namespace Cert.ReferenceIdeal.Run

open Idealize.ShloMosaic Idealize.ShloMosaic.TcCoe Idealize.ShloMosaic.Tactic
open Cert.ReferenceIdeal.Gen

/-! ## Where an update lands -/

/-- Update `(p, i, k)` of the selection lands where its three words say. -/
theorem lands (idx : IVec S64x16x8x3 32) (p p' : Fin 64) (i i' : Fin 16) (k : Fin 8) (s : Fin 128) :
    scatter_S64x16x128_S64x16x8x3_S64x16x8_n_012_012_3.resultIdx? (ix3 p i k) idx = some (ix3 p' i' s)
      ↔ (idx (ix4 p i k 0)).toInt = p'.val ∧ (idx (ix4 p i k 1)).toInt = i'.val ∧ (idx (ix4 p i k 2)).toInt = s.val := by
  rw [Routing.resultIdx?_eq_some]
  have e : ∀ a : Fin 3, scatter_S64x16x128_S64x16x8x3_S64x16x8_n_012_012_3.start (ix3 p i k) idx a
      + (scatter_S64x16x128_S64x16x8x3_S64x16x8_n_012_012_3.window (ix3 p i k) a : Int) = (idx (ix4 p i k a)).toInt := by
    intro a
    have hs : scatter_S64x16x128_S64x16x8x3_S64x16x8_n_012_012_3.start (ix3 p i k) idx a = (idx (ix4 p i k a)).toInt := by
      fin_cases a <;> (refine congrArg (fun z => (idx z).toInt) ?_; funext b; fin_cases b <;> rfl)
    have hw : scatter_S64x16x128_S64x16x8x3_S64x16x8_n_012_012_3.window (ix3 p i k) a = 0 := by fin_cases a <;> rfl
    rw [hs, hw]; simp
  constructor
  · intro h
    exact ⟨(e 0).symm.trans (h 0), (e 1).symm.trans (h 1), (e 2).symm.trans (h 2)⟩
  · rintro ⟨h0, h1, h2⟩ a
    refine (e a).trans ?_
    fin_cases a
    exacts [h0, h1, h2]

/-- Update `(p, i, k)` of the tokens lands `48` columns on. -/
theorem lands_token (p p' : Fin 8192) (i i' : Fin 16) (k : Fin 16) (t : Fin 64) :
    scatter_S8192x16x64_S1_S8192x16x16_012_n_2_0.resultIdx? (ix3 p i k) (broadcastInDim S1 ![] bcast_S_S1 (constantI S_ 32 48#32)) = some (ix3 p' i' t)
      ↔ p = p' ∧ i = i' ∧ 48 + k.val = t.val := by
  rw [Routing.resultIdx?_eq_some]
  have h0 : scatter_S8192x16x64_S1_S8192x16x16_012_n_2_0.start (ix3 p i k) (broadcastInDim S1 ![] bcast_S_S1 (constantI S_ 32 48#32)) (0 : Fin 3)
      + (scatter_S8192x16x64_S1_S8192x16x16_012_n_2_0.window (ix3 p i k) (0 : Fin 3) : Int) = ((0 : ℕ) : Int) + (p.val : Int) := rfl
  have h1 : scatter_S8192x16x64_S1_S8192x16x16_012_n_2_0.start (ix3 p i k) (broadcastInDim S1 ![] bcast_S_S1 (constantI S_ 32 48#32)) (1 : Fin 3)
      + (scatter_S8192x16x64_S1_S8192x16x16_012_n_2_0.window (ix3 p i k) (1 : Fin 3) : Int) = ((0 : ℕ) : Int) + (i.val : Int) := rfl
  have h2 : scatter_S8192x16x64_S1_S8192x16x16_012_n_2_0.start (ix3 p i k) (broadcastInDim S1 ![] bcast_S_S1 (constantI S_ 32 48#32)) (2 : Fin 3)
      + (scatter_S8192x16x64_S1_S8192x16x16_012_n_2_0.window (ix3 p i k) (2 : Fin 3) : Int) = ((48 : ℕ) : Int) + (k.val : Int) := rfl
  constructor
  · intro h
    have a0 : ((0 : ℕ) : Int) + (p.val : Int) = p'.val := h0.symm.trans (h 0)
    have a1 : ((0 : ℕ) : Int) + (i.val : Int) = i'.val := h1.symm.trans (h 1)
    have a2 : ((48 : ℕ) : Int) + (k.val : Int) = t.val := h2.symm.trans (h 2)
    exact ⟨Fin.ext (by omega), Fin.ext (by omega), by omega⟩
  · rintro ⟨rfl, rfl, h⟩ a
    fin_cases a
    · refine h0.trans ?_
      show _ = ((p.val : ℕ) : Int)
      omega
    · refine h1.trans ?_
      show _ = ((i.val : ℕ) : Int)
      omega
    · refine h2.trans ?_
      show _ = ((t.val : ℕ) : Int)
      omega

/-! ## The eight greatest -/

/-- Row `i` of plane `p`. -/
def rowOf (x : Vec Ideal S64x16x128 .f32) (p : Fin 64) (i : Fin 16) : Fin 128 → EReal := fun s => x (ix3 p i s)

/-- A total comparison `>` of extended reals. -/
theorem gt_eq_true (a b : EReal) : (FloatOps.cmpfTotal (F := Ideal) (φ := .f32) .gt a b == 1#1) = true ↔ b < a := by
  rw [Ideal.cmpfTotal_def]
  by_cases h : b < a <;> simp [Ideal.cmp, CmpDirection.ordered, h]

/-- Changing the last coordinate of a place changes that coordinate. -/
theorem along_last (p : Fin 64) (i : Fin 16) (c c' : Fin 128) : Shape.Idx.along (s := S64x16x128) (ix3 p i c) (2 : Fin 3) c' = ix3 p i c' := by
  unfold Shape.Idx.along
  funext a
  fin_cases a
  · exact Function.update_of_ne (by decide) _ _
  · exact Function.update_of_ne (by decide) _ _
  · exact Function.update_self _ _ _

/-- Entry `k` of the first eight of a row. -/
theorem first_eight (p : Fin 64) (i : Fin 16) (k : Fin 8) :
    (extractStridedSlice S64x16x8 (fun _ => 0) (fun J : S64x16x128.Idx => J) sliceFits_S64x16x128_S64x16x8) (ix3 p i k)
      = ix3 p i (⟨k.val, by omega⟩ : Fin 128) := by
  funext a; apply Fin.ext; fin_cases a <;> simp [extractStridedSlice, ix3]

/-- The chosen values, and -/
theorem topValues_eq (x : Vec Ideal S64x16x128 .f32) (y : S64x16x8.Idx) :
    topValues (F := Ideal) x y = (Host.sort2 S64x16x128 2 (fun l r => FloatOps.cmpfTotal (F := Ideal) (φ := .f32) .gt l.1 r.1) x
      (fun J : S64x16x128.Idx => iotaInDim S64x16x128 32 (2 : Fin 3) J)).1 (extractStridedSlice S64x16x8 (fun _ => 0) (fun J : S64x16x128.Idx => J) sliceFits_S64x16x128_S64x16x8 y) := rfl

/-- the chosen places, are the first eight of the sorted row. -/
theorem topPlaces_eq (x : Vec Ideal S64x16x128 .f32) (y : S64x16x8.Idx) :
    topPlaces (F := Ideal) x y = (Host.sort2 S64x16x128 2 (fun l r => FloatOps.cmpfTotal (F := Ideal) (φ := .f32) .gt l.1 r.1) x
      (fun J : S64x16x128.Idx => iotaInDim S64x16x128 32 (2 : Fin 3) J)).2 (extractStridedSlice S64x16x8 (fun _ => 0) (fun J : S64x16x128.Idx => J) sliceFits_S64x16x128_S64x16x8 y) := rfl

/-- The column word at a place moved along its row. -/
theorem iota_along (J : S64x16x128.Idx) (c : Fin 128) : iotaInDim S64x16x128 32 (2 : Fin 3) (Shape.Idx.along (s := S64x16x128) J (2 : Fin 3) c) = BitVec.ofNat 32 c.val := by
  have h : (Shape.Idx.along (s := S64x16x128) J (2 : Fin 3) c) (2 : Fin 3) = c := by
    unfold Shape.Idx.along
    exact Function.update_self _ _ _
  exact congrArg (fun c : Fin 128 => BitVec.ofNat 32 c.val) h

/-- The values of a sorted row are its sorted pairs, without the places, -/
theorem sorted_fst {α β : Type} (f : α × β → α × β → BitVec 1) (x : S64x16x128.Idx → α) (y : S64x16x128.Idx → β) (J : S64x16x128.Idx) :
    (Host.sort2 S64x16x128 2 f x y).1 J
      = x (J.along (2 : Fin 3) (sortedFrom (fun a b => f (x (J.along (2 : Fin 3) a), y (J.along (2 : Fin 3) a)) (x (J.along (2 : Fin 3) b), y (J.along (2 : Fin 3) b)) == 1#1) (J (2 : Fin 3)))) := rfl

/-- and the places are the pairs without the values. -/
theorem sorted_snd {α β : Type} (f : α × β → α × β → BitVec 1) (x : S64x16x128.Idx → α) (y : S64x16x128.Idx → β) (J : S64x16x128.Idx) :
    (Host.sort2 S64x16x128 2 f x y).2 J
      = y (J.along (2 : Fin 3) (sortedFrom (fun a b => f (x (J.along (2 : Fin 3) a), y (J.along (2 : Fin 3) a)) (x (J.along (2 : Fin 3) b), y (J.along (2 : Fin 3) b)) == 1#1) (J (2 : Fin 3)))) := rfl

/-- The values and places of a row's eight greatest entries: entry `k` is the one of rank `k`. -/
theorem top_at (x : Vec Ideal S64x16x128 .f32) (p : Fin 64) (i : Fin 16) :
    ∃ σ : Fin 8 → Fin 128, (∀ k, Math.rank (rowOf x p i) (σ k) = k.val)
      ∧ ∀ k, topValues (F := Ideal) x (ix3 p i k) = rowOf x p i (σ k) ∧ topPlaces (F := Ideal) x (ix3 p i k) = BitVec.ofNat 32 (σ k).val := by
  let R : S64x16x128.Idx → Fin 128 → Fin 128 → Bool := fun J a b =>
    FloatOps.cmpfTotal (F := Ideal) (φ := .f32) .gt (x (J.along (2 : Fin 3) a)) (x (J.along (2 : Fin 3) b)) == 1#1
  refine ⟨fun k => sortedFrom (R (ix3 p i (⟨k.val, by omega⟩ : Fin 128))) ⟨k.val, by omega⟩,
    fun k => Math.rank_sortedFrom (rowOf x p i) _ (fun a b => ?_) _, fun k => ⟨?_, ?_⟩⟩
  · dsimp only [R]
    rw [along_last, along_last]
    exact gt_eq_true _ _
  · rw [topValues_eq, first_eight, sorted_fst]
    exact congrArg x (along_last _ _ _ _)
  · rw [topPlaces_eq, first_eight, sorted_snd]
    exact iota_along _ _

/-- The words of place `(p, i, k)`: its plane, its row and the column found there. -/
theorem planes_at (p : Fin 64) : planes (F := Ideal) (ix3 p 0 0) = BitVec.ofNat 32 p.val := by
  pointwise [planes]
  exact Routing.wrap_of_lt _ _ (by rw [BitVec.toNat_ofNat]; omega)

/-- The row's number, as the scatter takes it. -/
theorem rows_at (i : Fin 16) : rows (F := Ideal) (ix3 0 i 0) = BitVec.ofNat 32 i.val := by
  pointwise [rows]
  exact Routing.wrap_of_lt _ _ (by rw [BitVec.toNat_ofNat]; omega)

/-- The place that a chosen entry is scattered to. -/
theorem places_at (x : Vec Ideal S64x16x8 .i32) (p : Fin 64) (i : Fin 16) (k : Fin 8) (s : Fin 128) (hs : x (ix3 p i k) = BitVec.ofNat 32 s.val) :
    places (F := Ideal) x (ix4 p i k 0) = BitVec.ofNat 32 p.val ∧ places (F := Ideal) x (ix4 p i k 1) = BitVec.ofNat 32 i.val
      ∧ places (F := Ideal) x (ix4 p i k 2) = BitVec.ofNat 32 s.val := by
  have h : ∀ j : Fin 3, places (F := Ideal) x (ix4 p i k j) = if j.val < 1 then planes (F := Ideal) (ix3 p 0 0) else if j.val - 1 < 1 then rows (F := Ideal) (ix3 0 i 0)
      else Scalar.select (IntOp.cmpi .slt (x (ix3 p i k)) 0#32) (IntOp.addi (x (ix3 p i k)) 128#32) (x (ix3 p i k)) := by
    intro j
    pointwise [places, columns]
    split_ifs <;> rfl
  rw [h 0, h 1, h 2, planes_at, rows_at, hs]
  exact ⟨rfl, rfl, Routing.wrap_of_lt _ _ (by rw [BitVec.toNat_ofNat]; omega)⟩

/-- A small number keeps its value as a signed word. -/
theorem toInt_small (n : ℕ) (h : n < 2 ^ 31) : (BitVec.ofNat 32 n).toInt = (n : Int) := by
  rw [BitVec.toInt_eq_toNat_of_lt (by rw [BitVec.toNat_ofNat]; omega), BitVec.toNat_ofNat]
  congr 1; omega

/-- The selection keeps a row's entries of rank under eight. -/
theorem selected_at (x : Vec Ideal S64x16x128 .f32) (hbot : Ideal.ofBits .f32 0xFF800000#32 = (⊥ : EReal)) (p : Fin 64) (i : Fin 16) (s : Fin 128) :
    selected (F := Ideal) x (ix3 p i s) = Math.kept (rowOf x p i) 8 s := by
  have hl : ∀ (p' : Fin 64) (i' : Fin 16) (k : Fin 8), scatter_S64x16x128_S64x16x8x3_S64x16x8_n_012_012_3.resultIdx? (ix3 p' i' k) (places (F := Ideal) (topPlaces (F := Ideal) x)) = some (ix3 p i s)
      ↔ p' = p ∧ i' = i ∧ topPlaces (F := Ideal) x (ix3 p' i' k) = BitVec.ofNat 32 s.val := by
    intro p' i' k
    obtain ⟨σ, -, h⟩ := top_at x p' i'
    obtain ⟨h0, h1, h2⟩ := places_at _ p' i' k (σ k) (h k).2
    rw [lands, h0, h1, h2, (h k).2, toInt_small _ (by omega), toInt_small _ (by omega), toInt_small _ (by omega)]
    refine ⟨fun ⟨a, b, c⟩ => ⟨Fin.ext (by omega), Fin.ext (by omega), by rw [show (σ k).val = s.val by omega]⟩, ?_⟩
    rintro ⟨rfl, rfl, e⟩
    have := congrArg BitVec.toNat e
    rw [BitVec.toNat_ofNat, BitVec.toNat_ofNat] at this
    exact ⟨rfl, rfl, by omega⟩
  obtain ⟨σ, hσ, h⟩ := top_at x p i
  unfold selected Math.kept
  by_cases hr : Math.rank (rowOf x p i) s < 8
  · rw [if_pos hr]
    have hs : σ ⟨_, hr⟩ = s := Math.rank_injective _ ((hσ ⟨_, hr⟩))
    refine Routing.scatter_set_hit _ _ _ _ _ _ (fun K hK => ?_) (ix3 p i ⟨_, hr⟩) ((hl p i _).2 ⟨rfl, rfl, by rw [(h _).2, hs]⟩)
    obtain ⟨p', i', k, rfl⟩ : ∃ p' i' k, K = ix3 p' i' k := ⟨K 0, K 1, K 2, by funext a; fin_cases a <;> rfl⟩
    obtain ⟨rfl, rfl, e⟩ := (hl p' i' k).1 hK
    rw [(h k).1]
    rw [(h k).2] at e
    have := congrArg BitVec.toNat e
    rw [BitVec.toNat_ofNat, BitVec.toNat_ofNat] at this
    rw [show σ k = s from Fin.ext (by omega)]
  · rw [if_neg hr]
    refine (Routing.scatter_set_miss _ _ _ _ _ fun K hK => hr ?_).trans hbot
    obtain ⟨p', i', k, rfl⟩ : ∃ p' i' k, K = ix3 p' i' k := ⟨K 0, K 1, K 2, by funext a; fin_cases a <;> rfl⟩
    obtain ⟨rfl, rfl, e⟩ := (hl p' i' k).1 hK
    rw [(h k).2] at e
    have := congrArg BitVec.toNat e
    rw [BitVec.toNat_ofNat, BitVec.toNat_ofNat] at this
    rw [← show σ k = s from Fin.ext (by omega), hσ]
    exact k.isLt

/-! ## The last sixteen tokens -/

/-- The tokens' scores are kept in the last sixteen columns. -/
theorem lastTokens_at (x : Vec Ideal S8192x16x64 .f32) (hbot : Ideal.ofBits .f32 0xFF800000#32 = (⊥ : EReal)) (p : Fin 8192) (i : Fin 16) (t : Fin 64) :
    lastTokens (F := Ideal) x (ix3 p i t) = Math.atEnd 48 (by decide) (fun t' : Fin 16 => x (ix3 p i ⟨48 + t'.val, by omega⟩)) t := by
  unfold lastTokens Math.atEnd
  split
  · next h =>
    refine Routing.scatter_set_hit _ _ _ _ _ _ (fun K hK => ?_) (ix3 p i (⟨t.val - 48, by omega⟩ : Fin 16)) ((lands_token _ _ _ _ _ _).2 ⟨rfl, rfl, by simp only []; omega⟩)
    obtain ⟨p', i', k, rfl⟩ : ∃ p' i' k, K = ix3 p' i' k := ⟨K 0, K 1, K 2, by funext a; fin_cases a <;> rfl⟩
    obtain ⟨rfl, rfl, e⟩ := (lands_token _ _ _ _ _ _).1 hK
    refine congrArg x (funext fun a => Fin.ext ?_)
    fin_cases a <;> simp [ix3]
    omega
  · next h =>
    refine (Routing.scatter_set_miss _ _ _ _ _ fun K hK => h ?_).trans hbot
    obtain ⟨p', i', k, rfl⟩ : ∃ p' i' k, K = ix3 p' i' k := ⟨K 0, K 1, K 2, by funext a; fin_cases a <;> rfl⟩
    obtain ⟨rfl, rfl, e⟩ := (lands_token _ _ _ _ _ _).1 hK
    omega

end Cert.ReferenceIdeal.Run

end
-- ==== Proof.Reference.Softmax.lean ====
/- The reference's softmax of rows, once for rows of any number and length. -/
module

public import proofs.«01_k».proof.Proof.Reference.Select
public import proofs.«01_k».proof.Proof.Math.Spec

@[expose] public section

set_option maxRecDepth 16384

noncomputable section

namespace Cert.ReferenceIdeal.Run

open Idealize.ShloMosaic Idealize.ShloMosaic.TcCoe Idealize.ShloMosaic.Tactic
open Cert.ReferenceIdeal.Gen

section
variable {P Q n : ℕ} (h : (⟨3, ![P, Q, n]⟩ : Shape).ReducesTo [2] ⟨2, ![P, Q]⟩)
    (hb : Shape.BroadcastsInDim (⟨2, ![P, Q]⟩ : Shape) ⟨3, ![P, Q, 1]⟩ (![0, 1] : Fin 2 → Fin 3))
    (hb' : Shape.BroadcastsInDim (⟨3, ![P, Q, 1]⟩ : Shape) ⟨3, ![P, Q, n]⟩ (![0, 1, 2] : Fin 3 → Fin 3))
    (h0 : Shape.BroadcastsInDim S_ (⟨2, ![P, Q]⟩ : Shape) (![] : Fin 0 → Fin 2))
    (x : Vec Ideal ⟨3, ![P, Q, n]⟩ .f32) (p : Fin P) (i : Fin Q) (s : Fin n)

/-- A value per row, put in every column. -/
theorem spread_at (y : Vec Ideal ⟨2, ![P, Q]⟩ .f32) :
    (broadcastInDim ⟨3, ![P, Q, n]⟩ ![0, 1, 2] hb' (broadcastInDim ⟨3, ![P, Q, 1]⟩ ![0, 1] hb y)) (ix3 p i s) = y (ix2 p i) := by
  refine congrArg y (funext fun a => Fin.ext ?_)
  have := p.isLt; have := i.isLt
  fin_cases a
  · by_cases g : P = 1 <;> simp [ix3, ix2, g]
    omega
  · by_cases g : Q = 1 <;> simp [ix3, ix2, g]
    omega

/-- The exponentials of rows over their greatest entries, -/
def expOf : Vec Ideal ⟨3, ![P, Q, n]⟩ .f32 :=
  Host.exp (F := Ideal) (φ := .f32) (subf x (broadcastInDim ⟨3, ![P, Q, n]⟩ ![0, 1, 2] hb' (broadcastInDim ⟨3, ![P, Q, 1]⟩ ![0, 1] hb
    (maximumf (F := Ideal) (φ := .f32) (broadcastInDim ⟨2, ![P, Q]⟩ ![] h0 (constant S_ .f32 0xFF800000#32))
      (Host.reduce FloatOps.maximumf x (constant S_ .f32 0xFF800000#32) h h_S_)))))

/-- The exponentials of a row: each of the distance from its greatest entry. -/
theorem expOf_at : expOf h hb hb' h0 x (ix3 p i s) = Ideal.exp (x (ix3 p i s) - Finset.univ.sup fun s => x (ix3 p i s)) := by
  unfold expOf
  refine congrArg Ideal.exp (congrArg (x (ix3 p i s) - ·) ((spread_at hb hb' p i s _).trans ?_))
  pointwise []
  rw [Math.fold_max, Math.max_bot]

/-- and their shares of the row's sum are the row's softmax. -/
theorem softmax_at : Host.divf (F := Ideal) (φ := .f32) (expOf h hb hb' h0 x) (broadcastInDim ⟨3, ![P, Q, n]⟩ ![0, 1, 2] hb' (broadcastInDim ⟨3, ![P, Q, 1]⟩ ![0, 1] hb
    (Host.reduceAdd (expOf h hb hb' h0 x) (constant S_ .f32 0x00000000#32) h h_S_))) (ix3 p i s) = Math.softmax (fun s => x (ix3 p i s)) s := by
  refine congrArg₂ Ideal.div (expOf_at h hb hb' h0 x p i s) ((spread_at hb hb' p i s _).trans ?_)
  pointwise []
  exact Finset.sum_congr rfl fun s _ => expOf_at h hb hb' h0 x p i s

end

/-- The statistic softmax, row by row, -/
theorem statSoftmax_at (x : Vec Ideal S64x16x128 .f32) (p : Fin 64) (i : Fin 16) (s : Fin 128) :
    statSoftmax (F := Ideal) x (ix3 p i s) = Math.softmax (fun s => x (ix3 p i s)) s :=
  softmax_at reducesTo_S64x16x128_S64x16_d2 bcast_S64x16_S64x16x1_0_1 bcast_S64x16x1_S64x16x128_0_1_2 bcast_S_S64x16 x p i s

/-- and the tokens'. -/
theorem tokenSoftmax_at (x : Vec Ideal S8192x16x64 .f32) (p : Fin 8192) (i : Fin 16) (s : Fin 64) :
    tokenSoftmax (F := Ideal) x (ix3 p i s) = Math.softmax (fun s => x (ix3 p i s)) s :=
  softmax_at reducesTo_S8192x16x64_S8192x16_d2 bcast_S8192x16_S8192x16x1_0_1 bcast_S8192x16x1_S8192x16x64_0_1_2 bcast_S_S8192x16 x p i s

end Cert.ReferenceIdeal.Run

end
-- ==== Proof.Reference.Entries.lean ====
/- Each step of the reference, entry by entry, and its result as the mathematics of each query. -/
module

public import proofs.«01_k».proof.Proof.Reference.Softmax
public import proofs.«01_k».proof.Proof.Math.Spec

@[expose] public section

set_option maxRecDepth 16384

noncomputable section

namespace Cert.ReferenceIdeal.Run

open Idealize.ShloMosaic Idealize.ShloMosaic.TcCoe Idealize.ShloMosaic.Tactic
open Cert.ReferenceIdeal.Gen

/-- The projected query of head `h`, in its plane, is the projection of the query. -/
theorem queryHeads_at (x : Vec Ideal S8x16x256 .f32) (w : Vec Ideal S256x256 .f32) (b h : Fin 8) (i : Fin 16) (p : Fin 64) (hp : p.val = b.val * 8 + h.val) :
    (fun e => queryHeads (F := Ideal) x w (ix3 p i e)) = Math.proj (fun d => x (ix3 b i d)) (fun d j => w (ix2 d j)) h := by
  funext e
  pointwise [queryHeads]
  unfold Math.proj
  refine Finset.sum_congr rfl fun d _ => ?_
  congr 2 <;> (congr 1; apply Fin.ext; simp [Math.col] <;> omega)

/-- So is the projected statistic key, -/
theorem keyHeads_at (x : Vec Ideal S8x128x256 .f32) (w : Vec Ideal S256x256 .f32) (b h : Fin 8) (s : Fin 128) (p : Fin 64) (hp : p.val = b.val * 8 + h.val) :
    (fun e => keyHeads (F := Ideal) x w (ix3 p s e)) = Math.proj (fun d => x (ix3 b s d)) (fun d j => w (ix2 d j)) h := by
  funext e
  pointwise [keyHeads]
  unfold Math.proj
  refine Finset.sum_congr rfl fun d _ => ?_
  congr 2 <;> (congr 1; apply Fin.ext; simp [Math.col] <;> omega)

/-- and the projected token. -/
theorem tokenHeads_at (x : Vec Ideal S1024x64x256 .f32) (w : Vec Ideal S256x256 .f32) (b h : Fin 8) (s : Fin 128) (t : Fin 64) :
    (fun e => tokenHeads (F := Ideal) x w (ix5 b h s t e))
      = Math.proj (fun d => x (ix3 (⟨128 * b.val + s.val, by omega⟩ : Fin 1024) t d)) (fun d j => w (ix2 d j)) h := by
  funext e
  pointwise [tokenHeads]
  unfold Math.proj
  refine Finset.sum_congr rfl fun d _ => ?_
  congr 2 <;> (congr 1; apply Fin.ext; simp [Math.col] <;> omega)

/-- The statistic scores of a query: the row of scores, −∞ from the valid length on. -/
theorem statScores_at (q : Vec Ideal S64x16x32 .f32) (k : Vec Ideal S64x128x32 .f32) (n : Vec Ideal S8 .i32) (b h : Fin 8) (i : Fin 16) (s : Fin 128)
    (p : Fin 64) (hp : p.val = b.val * 8 + h.val) :
    statScores (F := Ideal) q k n (ix3 p i s)
      = if BitVec.slt (BitVec.ofNat 32 s.val) (n (ix1 b)) then Math.score (fun e => q (ix3 p i e)) (fun e => k (ix3 p s e)) else ⊥ := by
  have hb : (⟨(p.val * 16 + i.val) / 128, by omega⟩ : Fin 8) = b := Fin.ext (by simp; omega)
  pointwise [statScores, root]
  rw [hb, Math.sqrt_depth]
  have e : id (constant (F := Ideal) S_ .f32 0xFF800000#32) ix0 = (⊥ : EReal) := Math.ofBits_bot
  rw [e]
  by_cases h : BitVec.slt (BitVec.ofNat 32 s.val) (n (ix1 b)) <;> simp [Scalar.select, IntOp.cmpi, h, Math.score]

/-- The tokens' scores of a query: each a product over √32. -/
theorem tokenScores_at (q : Vec Ideal S64x16x32 .f32) (k : Vec Ideal S8x8x128x64x32 .f32) (b h : Fin 8) (s : Fin 128) (i : Fin 16) (t : Fin 64)
    (p : Fin 64) (hp : p.val = b.val * 8 + h.val) (r : Fin 8192) (hr : r.val = p.val * 128 + s.val) :
    tokenScores (F := Ideal) q k (ix3 r i t) = Math.score (fun e => q (ix3 p i e)) (fun e => k (ix5 b h s t e)) := by
  pointwise [tokenScores, root]
  rw [Math.sqrt_depth]
  unfold Math.score
  congr 1
  refine Finset.sum_congr rfl fun d _ => ?_
  congr 2 <;> congr 1 <;> (apply Fin.ext; simp; omega)

/-- A sequence's combination at column `e` of head `h`, a sum over statistic keys and tokens. -/
theorem combined_at (w : Vec Ideal S64x16x128 .f32) (a : Vec Ideal S8192x16x64 .f32) (v : Vec Ideal S8x8x128x64x32 .f32) (b h : Fin 8) (i : Fin 16) (e : Fin 32)
    (p : Fin 64) (hp : p.val = b.val * 8 + h.val) :
    combined (F := Ideal) w a v (ix3 b i (Math.col h e))
      = ∑ s : Fin 128, ∑ t : Fin 64, w (ix3 p i s) * a (ix3 (⟨p.val * 128 + s.val, by omega⟩ : Fin 8192) i t) * v (ix5 b h s t e) := by
  pointwise [combined]
  rw [← Math.sum_groups (N := 8192) 128 64 rfl
    (fun s t => w (ix3 p i s) * a (ix3 (⟨p.val * 128 + s.val, by omega⟩ : Fin 8192) i t) * v (ix5 b h s t e)) (fun x => by omega) (fun x => by omega)]
  refine Finset.sum_congr rfl fun x _ => ?_
  refine congrArg₂ (· * ·) (congrArg₂ (· * ·) (congrArg w ?_) (congrArg a ?_)) (congrArg v ?_) <;>
    congr 1 <;> (apply Fin.ext; simp [Math.col] <;> omega)

/-- The scores of the statistic keys, -/
theorem statScores_row (x : Vec Ideal S8x16x256 .f32) (sk : Vec Ideal S8x128x256 .f32) (n : Vec Ideal S8 .i32) (wq wk : Vec Ideal S256x256 .f32) (b h : Fin 8)
    (i : Fin 16) (p : Fin 64) (hp : p.val = b.val * 8 + h.val) :
    rowOf (statScores (F := Ideal) (queryHeads x wq) (keyHeads sk wk) n) p i
      = Math.statRow (fun d => x (ix3 b i d)) (fun s d => sk (ix3 b s d)) (n (ix1 b)) (fun d j => wq (ix2 d j)) (fun d j => wk (ix2 d j)) h := by
  funext s
  unfold rowOf
  rw [statScores_at _ _ _ b h i s p hp, queryHeads_at x wq b h i p hp, keyHeads_at sk wk b h s p hp]
  rfl

/-- their weights, -/
theorem statWeight_at (x : Vec Ideal S8x16x256 .f32) (sk : Vec Ideal S8x128x256 .f32) (n : Vec Ideal S8 .i32) (wq wk : Vec Ideal S256x256 .f32) (b h : Fin 8)
    (i : Fin 16) (s : Fin 128) (p : Fin 64) (hp : p.val = b.val * 8 + h.val) :
    statSoftmax (F := Ideal) (selected (statScores (queryHeads x wq) (keyHeads sk wk) n)) (ix3 p i s)
      = Math.statWeight (fun d => x (ix3 b i d)) (fun s d => sk (ix3 b s d)) (n (ix1 b)) (fun d j => wq (ix2 d j)) (fun d j => wk (ix2 d j)) h s := by
  rw [statSoftmax_at, funext fun s => selected_at _ Math.ofBits_bot p i s, statScores_row x sk n wq wk b h i p hp]
  rfl

/-- and the weights of the tokens, zero for all but the last sixteen. -/
theorem tokenWeight_at (x : Vec Ideal S8x16x256 .f32) (tk : Vec Ideal S1024x64x256 .f32) (wq wk : Vec Ideal S256x256 .f32) (b h : Fin 8)
    (i : Fin 16) (s : Fin 128) (t : Fin 64) (p : Fin 64) (hp : p.val = b.val * 8 + h.val) (r : Fin 8192) (hr : r.val = p.val * 128 + s.val)
    (hreal : Math.Reals (Math.tokenRow (fun d => x (ix3 b i d)) (fun t d => tk (ix3 (⟨128 * b.val + s.val, by omega⟩ : Fin 1024) (⟨48 + t.val, by omega⟩ : Fin 64) d))
      (fun d j => wq (ix2 d j)) (fun d j => wk (ix2 d j)) h)) :
    tokenSoftmax (F := Ideal) (lastTokens (tokenScores (queryHeads x wq) (tokenHeads tk wk))) (ix3 r i t)
      = if g : 48 ≤ t.val then Math.softmax (Math.tokenRow (fun d => x (ix3 b i d))
          (fun t d => tk (ix3 (⟨128 * b.val + s.val, by omega⟩ : Fin 1024) (⟨48 + t.val, by omega⟩ : Fin 64) d))
          (fun d j => wq (ix2 d j)) (fun d j => wk (ix2 d j)) h) ⟨t.val - 48, by omega⟩ else 0 := by
  have e : (fun t' : Fin 16 => tokenScores (F := Ideal) (queryHeads x wq) (tokenHeads tk wk) (ix3 r i (⟨48 + t'.val, by omega⟩ : Fin 64)))
      = Math.tokenRow (fun d => x (ix3 b i d)) (fun t d => tk (ix3 (⟨128 * b.val + s.val, by omega⟩ : Fin 1024) (⟨48 + t.val, by omega⟩ : Fin 64) d))
          (fun d j => wq (ix2 d j)) (fun d j => wk (ix2 d j)) h := by
    funext t'
    rw [tokenScores_at _ _ b h s i _ p hp r hr, queryHeads_at x wq b h i p hp, tokenHeads_at]
    rfl
  rw [tokenSoftmax_at, funext fun t => lastTokens_at _ Math.ofBits_bot r i t, e]
  exact Math.softmax_atEnd 48 (by norm_num) _ (fun j => by obtain ⟨a, ha⟩ := hreal j; rw [ha]; exact EReal.coe_ne_top a)
    ⟨0, by obtain ⟨a, ha⟩ := hreal 0; rw [ha]; exact EReal.coe_ne_bot a⟩ t

/-- The reference's result, where the tokens' scores are reals. -/
theorem result_at (x : Vec Ideal S8x16x256 .f32) (sk : Vec Ideal S8x128x256 .f32) (tk v : Vec Ideal S1024x64x256 .f32) (n : Vec Ideal S8 .i32)
    (wqs wqt wks wkt wv wo : Vec Ideal S256x256 .f32) (b : Fin 8) (i : Fin 16) (j : Fin 256)
    (hreal : ∀ (h : Fin 8) (s : Fin 128), Math.Reals (Math.tokenRow (fun d => x (ix3 b i d))
      (fun t d => tk (ix3 (⟨128 * b.val + s.val, by omega⟩ : Fin 1024) (⟨48 + t.val, by omega⟩ : Fin 64) d)) (fun d j => wqt (ix2 d j)) (fun d j => wkt (ix2 d j)) h)) :
    result (F := Ideal) x sk tk v n wqs wqt wks wkt wv wo (ix3 b i j)
      = Math.answer (fun d => x (ix3 b i d)) (fun s d => sk (ix3 b s d))
          (fun s t d => tk (ix3 (⟨128 * b.val + s.val, by omega⟩ : Fin 1024) (⟨48 + t.val, by omega⟩ : Fin 64) d))
          (fun s t d => v (ix3 (⟨128 * b.val + s.val, by omega⟩ : Fin 1024) (⟨48 + t.val, by omega⟩ : Fin 64) d)) (n (ix1 b))
          (fun d j => wqs (ix2 d j)) (fun d j => wqt (ix2 d j)) (fun d j => wks (ix2 d j)) (fun d j => wkt (ix2 d j)) (fun d j => wv (ix2 d j))
          (fun d j => wo (ix2 d j)) j := by
  have hdot : ∀ y : Vec Ideal S8x16x256 .f32, Host.dotGeneral (F := Ideal) (φ₁ := .f32) (φ₂ := .f32) dot_S8x16x256_S256x256_S8x16x256_2_0_01_1_n_n none y wo (ix3 b i j)
      = ∑ k : Fin 256, y (ix3 b i k) * wo (ix2 k j) := fun y => by pointwise []
  unfold result
  rw [hdot, Math.sum_cols]
  unfold Math.answer
  refine Finset.sum_congr rfl fun h _ => Finset.sum_congr rfl fun e _ => congrArg (· * wo (ix2 (Math.col h e) j)) ?_
  rw [combined_at _ _ _ b h i e ⟨b.val * 8 + h.val, by omega⟩ rfl]
  unfold Math.attend Math.combine
  refine Finset.sum_congr rfl fun s _ => ?_
  rw [statWeight_at x sk n wqs wks b h i s _ rfl, Math.sum_atEnd (n := 16) 48 (by norm_num)]
  · refine Finset.sum_congr rfl fun t _ => ?_
    rw [tokenWeight_at x tk wqt wkt b h i s _ _ rfl _ rfl (hreal h s), dif_pos (Nat.le_add_right 48 t.val)]
    refine congrArg₂ (· * ·) (congrArg₂ (· * ·) rfl (congrArg _ (Fin.ext (Nat.add_sub_cancel_left 48 t.val)))) ?_
    exact congrFun (tokenHeads_at v wv b h s _) e
  · intro t ht
    rw [tokenWeight_at x tk wqt wkt b h i s t _ rfl _ rfl (hreal h s), dif_neg (by omega), mul_zero, zero_mul]

end Cert.ReferenceIdeal.Run

end
-- ==== Proof.Algebraic.lean ====
/- The value claim: from arguments that meet the precondition, kernel and reference leave the same result. -/
module

public import proofs.«01_k».proof.Proof.Precondition
public import proofs.«01_k».proof.Proof.KernelIdeal.Answer
public import proofs.«01_k».proof.Proof.Reference.Entries

@[expose] public section

set_option maxRecDepth 16384

noncomputable section

namespace Cert.Proof

open Idealize.ShloMosaic Idealize.ShloMosaic.TcCoe Idealize.ShloMosaic.Tactic Idealize.SL.Sem
open Cert.KernelIdeal Cert.KernelIdeal.Run

/-- The reals among the arguments of the precondition: all of a matrix's entries, -/
theorem matOf_real (w : Vec Ideal S256x256 .f32) (h : ∀ i : S256x256.Idx, ∃ r : ℝ, (w i : EReal) = r) (d : Fin 256) : Math.Reals (matOf w d) := fun j => h (ix2 d j)

/-- and of the last sixteen tokens of every key. -/
theorem lastOf_real (x : Vec Ideal S1024x64x256 .f32) (hs : S1024x64x256.Slices ![0, 48, 0] Cert.Pre_finite_and_nonempty.S1024x16x256)
    (h : ∀ i : Cert.Pre_finite_and_nonempty.S1024x16x256.Idx, ∃ r : ℝ, (extractStridedSlice Cert.Pre_finite_and_nonempty.S1024x16x256 ![0, 48, 0] x hs i : EReal) = r)
    (b : Fin 8) (s : Fin 128) (t : Fin 16) : Math.Reals (lastOf x b s t) := fun d => by
  obtain ⟨r, e⟩ := h (ix3 (⟨128 * b.val + s.val, by omega⟩ : Fin 1024) t d)
  refine ⟨r, Eq.trans ?_ e⟩
  pointwise [lastOf]

/-- The kernel's result, where the precondition holds. -/
theorem kernel_answer (m : (ℓ : Loc nD τ sig) → Buf (Elt Ideal) ℓ) (c : Dev nD) (hpre : Cert.Pre_KernelIdeal_finite_and_nonempty m) :
    (dats m 0 c).arrAt 9 cfg0.N = Cert.ReferenceIdeal.Run.result (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9))
      (m ((c.tc : Thread nD τ).loc main_arg10)) := by
  obtain ⟨h0, h1, h2, h3, h5, h6, h7, h8, h9, h4⟩ := hpre c
  have hx : ∀ b i, Math.Reals (queryOf (m ((c.tc : Thread nD τ).loc main_arg0)) b i) := fun b i d => real_of_finite _ _ h0 (ix3 b i d)
  have hk : ∀ b s, Math.Reals (keysOf (m ((c.tc : Thread nD τ).loc main_arg1)) b s) := fun b s d => real_of_finite _ _ h1 (ix3 b s d)
  have htk := lastOf_real (m ((c.tc : Thread nD τ).loc main_arg2)) _ (real_of_finite _ _ h2)
  have hv := lastOf_real (m ((c.tc : Thread nD τ).loc main_arg3)) _ (real_of_finite _ _ h3)
  have hqs := matOf_real (m ((c.tc : Thread nD τ).loc main_arg5)) (real_of_finite _ _ h5)
  have hqt := matOf_real (m ((c.tc : Thread nD τ).loc main_arg6)) (real_of_finite _ _ h6)
  have hks := matOf_real (m ((c.tc : Thread nD τ).loc main_arg7)) (real_of_finite _ _ h7)
  have hkt := matOf_real (m ((c.tc : Thread nD τ).loc main_arg8)) (real_of_finite _ _ h8)
  have hwv := matOf_real (m ((c.tc : Thread nD τ).loc main_arg9)) (real_of_finite _ _ h9)
  have hn : ∀ b, BitVec.slt 0#32 ((m ((c.tc : Thread nD τ).loc main_arg4) : Vec Ideal S8 .i32) (ix1 b)) := fun b => pos_of_nonempty _ _ h4 (ix1 b)
  refine array_at m c _ fun t b htb i j => ?_
  rw [outV_at m c t b htb i j (hx b i) (hk b) (htk b) (hv b) (hn b) hqs hqt hks hkt hwv]
  exact (Cert.ReferenceIdeal.Run.result_at _ _ _ _ _ _ _ _ _ _ _ b i j fun h s => Math.tokenRow_real (hx b i) hqt hkt (htk b s) h).symm

/-- From arguments that meet the precondition, the idealized kernel and the idealized reference leave the same array. -/
theorem algebraic : Cert.algebraic_KernelIdeal_ReferenceIdeal_pre_finite_and_nonempty := by
  intro m ρ m' ρ' hpre hagree
  refine ⟨_, run_result m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8, e9, e10⟩ := hagree c
  rw [Cert.ReferenceIdeal.Run.res_eq, e0, e1, e2, e3, e4, e5, e6, e7, e8, e9, e10]
  exact (kernel_answer m c hpre).symm

end Cert.Proof

end
-- ==== Proof.lean ====
module

public import proofs.«01_k».proof.Defs
public import proofs.«01_k».proof.Proof.Claims
public import proofs.«01_k».proof.Proof.Algebraic

@[expose] public section

noncomputable section

namespace Cert.Proof

/-- Everything the certificate claims. -/
theorem claim : Cert.Claim := ⟨Cert.Kernel.Gen.facts, Cert.KernelIdeal.Gen.facts, Cert.ReferenceIdeal.Gen.facts, preFacts,
  frame_kernel, frame_ideal, frame_ideal_pre, frame_reference, frame_reference_pre, preserves, algebraic⟩

end Cert.Proof

end
